-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_nearest_apart [hPre_finite_nearest_apart : Cert.Pre_finite_nearest_apart.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nearest_apart [hPre_finite_nearest_apart : Cert.Pre_finite_nearest_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_nearest_apart [hKernelIdeal : Cert.KernelIdeal.Facts] [hPre_finite_nearest_apart : Cert.Pre_finite_nearest_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nearest_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_nearest_apart [hReferenceIdeal : Cert.ReferenceIdeal.Facts] [hPre_finite_nearest_apart : Cert.Pre_finite_nearest_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nearest_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_nearest_apart [hKernelIdeal : Cert.KernelIdeal.Facts] [hReferenceIdeal : Cert.ReferenceIdeal.Facts] [hPre_finite_nearest_apart : Cert.Pre_finite_nearest_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nearest_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_nearest_apart : Cert.Pre_finite_nearest_apart.Facts),
    quiescent_Kernel (hKernel := hKernel)
    ∧ quiescent_KernelIdeal (hKernelIdeal := hKernelIdeal)
    ∧ quiescent_KernelIdeal_pre_finite_nearest_apart (hKernelIdeal := hKernelIdeal) (hPre_finite_nearest_apart := hPre_finite_nearest_apart)
    ∧ quiescent_ReferenceIdeal (hReferenceIdeal := hReferenceIdeal)
    ∧ quiescent_ReferenceIdeal_pre_finite_nearest_apart (hReferenceIdeal := hReferenceIdeal) (hPre_finite_nearest_apart := hPre_finite_nearest_apart)
    ∧ preserves_Kernel_KernelIdeal
    ∧ algebraic_KernelIdeal_ReferenceIdeal_pre_finite_nearest_apart (hKernelIdeal := hKernelIdeal) (hReferenceIdeal := hReferenceIdeal) (hPre_finite_nearest_apart := hPre_finite_nearest_apart)
-- ==== Pre_finite_nearest_apart.lean ====
abbrev S4x3x8192 : Shape := ⟨3, ![4, 3, 8192]⟩
abbrev S4x3x2048 : Shape := ⟨3, ![4, 3, 2048]⟩
abbrev S4x64x8192 : Shape := ⟨3, ![4, 64, 8192]⟩
abbrev S4x128x2048 : Shape := ⟨3, ![4, 128, 2048]⟩
abbrev S128x192 : Shape := ⟨2, ![128, 192]⟩
abbrev S128 : Shape := ⟨1, ![128]⟩
abbrev S128x128 : Shape := ⟨2, ![128, 128]⟩
abbrev S4x8192x3 : Shape := ⟨3, ![4, 8192, 3]⟩
abbrev S4x2048x3 : Shape := ⟨3, ![4, 2048, 3]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x4 : Shape := ⟨3, ![4, 8192, 4]⟩
abbrev S4x8192x4x1 : Shape := ⟨4, ![4, 8192, 4, 1]⟩
abbrev S1 : Shape := ⟨1, ![1]⟩
abbrev S1x1x1x1 : Shape := ⟨4, ![1, 1, 1, 1]⟩

class Facts : Prop where
  transposes_S4x3x8192_S4x8192x3_0_2_1 : S4x3x8192.Transposes [0, 2, 1] S4x8192x3
  transposes_S4x3x2048_S4x2048x3_0_2_1 : S4x3x2048.Transposes [0, 2, 1] S4x2048x3
  transposes_S4x2048x3_S4x3x2048_0_2_1 : S4x2048x3.Transposes [0, 2, 1] S4x3x2048
  bcast_S_S4x8192x2048 : S_.BroadcastsInDim S4x8192x2048 (![] : Fin 0 → Fin S4x8192x2048.rank)
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192x1_S4x8192x2048_0_1_2 : S4x8192x1.BroadcastsInDim S4x8192x2048 (![0, 1, 2] : Fin 3 → Fin S4x8192x2048.rank)
  reducesTo_S4x2048x3_S4x2048_d2 : S4x2048x3.ReducesTo [2] S4x2048
  bcast_S4x2048_S4x1x2048_0_2 : S4x2048.BroadcastsInDim S4x1x2048 (![0, 2] : Fin 2 → Fin S4x1x2048.rank)
  bcast_S4x1x2048_S4x8192x2048_0_1_2 : S4x1x2048.BroadcastsInDim S4x8192x2048 (![0, 1, 2] : Fin 3 → Fin S4x8192x2048.rank)
  slices_S4x8192x2048_S4x8192x4_0_0_0 : S4x8192x2048.Slices ![0, 0, 0] S4x8192x4
  bcast_S_S4x8192x4 : S_.BroadcastsInDim S4x8192x4 (![] : Fin 0 → Fin S4x8192x4.rank)
  shapeCasts_S4x8192x4_S4x8192x4x1 : S4x8192x4.ShapeCasts S4x8192x4x1
  bcast_S_S4x8192x4x1 : S_.BroadcastsInDim S4x8192x4x1 (![] : Fin 0 → Fin S4x8192x4x1.rank)
  bcast_S1_S1x1x1x1_3 : S1.BroadcastsInDim S1x1x1x1 (![3] : Fin 1 → Fin S1x1x1x1.rank)
  bcast_S1x1x1x1_S4x8192x4x1_0_1_2_3 : S1x1x1x1.BroadcastsInDim S4x8192x4x1 (![0, 1, 2, 3] : Fin 4 → Fin S4x8192x4x1.rank)
  reducesTo_S4x8192x4x1_S4x8192x4_d3 : S4x8192x4x1.ReducesTo [3] S4x8192x4
  slices_S4x8192x4_S4x8192x3_0_0_0 : S4x8192x4.Slices ![0, 0, 0] S4x8192x3
  slices_S4x8192x4_S4x8192x3_0_0_1 : S4x8192x4.Slices ![0, 0, 1] S4x8192x3
  reducesTo_S4x8192x3_S_d0_1_2 : S4x8192x3.ReducesTo [0, 1, 2] S_
  bcast_S_S4x3x8192 : S_.BroadcastsInDim S4x3x8192 (![] : Fin 0 → Fin S4x3x8192.rank)
  reducesTo_S4x3x8192_S_d0_1_2 : S4x3x8192.ReducesTo [0, 1, 2] S_
  bcast_S_S4x3x2048 : S_.BroadcastsInDim S4x3x2048 (![] : Fin 0 → Fin S4x3x2048.rank)
  reducesTo_S4x3x2048_S_d0_1_2 : S4x3x2048.ReducesTo [0, 1, 2] S_
  bcast_S_S4x64x8192 : S_.BroadcastsInDim S4x64x8192 (![] : Fin 0 → Fin S4x64x8192.rank)
  reducesTo_S4x64x8192_S_d0_1_2 : S4x64x8192.ReducesTo [0, 1, 2] S_
  bcast_S_S4x128x2048 : S_.BroadcastsInDim S4x128x2048 (![] : Fin 0 → Fin S4x128x2048.rank)
  reducesTo_S4x128x2048_S_d0_1_2 : S4x128x2048.ReducesTo [0, 1, 2] S_
  bcast_S_S128x192 : S_.BroadcastsInDim S128x192 (![] : Fin 0 → Fin S128x192.rank)
  reducesTo_S128x192_S_d0_1 : S128x192.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  dot_S4x8192x3_S4x3x2048_S4x8192x2048_2_1_1_2_0_0_wf : DotDims.WF S4x8192x3 S4x3x2048 S4x8192x2048 [2] [1] [1] [2] [0] [0]
  gather_S4x8192x2048_S4x8192x4x1_S4x8192x4_n_2_01_01_2_3_111_wf : GatherDims.WF S4x8192x2048 S4x8192x4x1 S4x8192x4 [] [2] [0, 1] [2] [0, 1] 3 ![1, 1, 1]

variable [Facts]

variable {F : FTy → Type} [FloatOps F]
def dot_S4x8192x3_S4x3x2048_S4x8192x2048_2_1_1_2_0_0 : DotDims S4x8192x3 S4x3x2048 S4x8192x2048 where
  lhsContracting := [2]
  rhsContracting := [1]
  lhsNonContracting := [1]
  rhsNonContracting := [2]
  lhsBatch := [0]
  rhsBatch := [0]
  wf := dot_S4x8192x3_S4x3x2048_S4x8192x2048_2_1_1_2_0_0_wf
def comparator_f32_i32_d2 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S4x8192x2048_S4x8192x4x1_S4x8192x4_n_2_01_01_2_3_111 : GatherDims S4x8192x2048 S4x8192x4x1 S4x8192x4 where
  offsetDims := []
  collapsedSliceDims := [2]
  operandBatchingDims := [0, 1]
  startIndicesBatchingDims := [0, 1]
  startIndexMap := [2]
  indexVectorDim := 3
  sliceSizes := ![1, 1, 1]
  wf := gather_S4x8192x2048_S4x8192x4x1_S4x8192x4_n_2_01_01_2_3_111_wf

def fn_argsort {F : FTy → Type} [FloatOps F] (arg0 : FVec F S4x8192x2048 .f32) : IVec S4x8192x2048 32 :=
  let v0 : IVec S4x8192x2048 32 := iotaInDim S4x8192x2048 32 2
  let v1_0 : FVec F S4x8192x2048 .f32 := (fun x y => (Host.sort2 S4x8192x2048 2 comparator_f32_i32_d2 x y).1) arg0 v0
  let v1_1 : IVec S4x8192x2048 32 := (fun x y => (Host.sort2 S4x8192x2048 2 comparator_f32_i32_d2 x y).2) arg0 v0
  v1_1

def fn_take_along_axis {F : FTy → Type} [FloatOps F] (arg0 : FVec F S4x8192x2048 .f32) (arg1 : IVec S4x8192x4 32) : FVec F S4x8192x4 .f32 :=
  let c : IVec S_ 32 := constantI S_ 32 0#32
  let v0 : IVec S4x8192x4 32 := broadcastInDim S4x8192x4 ![] bcast_S_S4x8192x4 c
  let v1 : IVec S4x8192x4 1 := cmpi .slt arg1 v0
  let c_0 : IVec S_ 32 := constantI S_ 32 2048#32
  let v2 : IVec S4x8192x4 32 := broadcastInDim S4x8192x4 ![] bcast_S_S4x8192x4 c_0
  let v3 : IVec S4x8192x4 32 := addi arg1 v2
  let v4 : IVec S4x8192x4 32 := select v1 v3 arg1
  let v5 : IVec S4x8192x4x1 32 := shapeCast S4x8192x4x1 v4 shapeCasts_S4x8192x4_S4x8192x4x1
  let c_1 : IVec S1 32 := constantI S1 32 2047#32
  let c_2 : IVec S_ 32 := constantI S_ 32 0#32
  let v6 : IVec S4x8192x4x1 32 := broadcastInDim S4x8192x4x1 ![] bcast_S_S4x8192x4x1 c_2
  let v7 : IVec S4x8192x4x1 1 := cmpi .sge v5 v6
  let v8 : IVec S1x1x1x1 32 := broadcastInDim S1x1x1x1 ![3] bcast_S1_S1x1x1x1_3 c_1
  let v9 : IVec S4x8192x4x1 32 := broadcastInDim S4x8192x4x1 ![0, 1, 2, 3] bcast_S1x1x1x1_S4x8192x4x1_0_1_2_3 v8
  let v10 : IVec S4x8192x4x1 1 := cmpi .sle v5 v9
  let v11 : IVec S4x8192x4x1 1 := andi v7 v10
  let c_3 : IVec S_ 1 := constantI S_ 1 1#1
  let v12 : IVec S4x8192x4 1 := (fun x v => Host.reduce IntOp.andi x v reducesTo_S4x8192x4x1_S4x8192x4_d3 h_S_) v11 c_3
  let v13 : FVec F S4x8192x4 .f32 := (fun x i => Host.gather gather_S4x8192x2048_S4x8192x4x1_S4x8192x4_n_2_01_01_2_3_111 x i) arg0 v5
  let cst : FVec F S_ .f32 := constant S_ .f32 0x7FC00000#32
  let v14 : FVec F S4x8192x4 .f32 := broadcastInDim S4x8192x4 ![] bcast_S_S4x8192x4 cst
  let v15 : FVec F S4x8192x4 .f32 := select v12 v13 v14
  v15

def fn_part4 {F : FTy → Type} [FloatOps F] (main_arg10 : FVec F S128 .f32) (main_v67 : IVec S_ 1) (main_v71 : IVec S_ 1) : IVec S_ 1 :=
  let main_v72 : IVec S_ 1 := andi main_v67 main_v71
  let main_v73 : FVec F S128 .f32 := Host.absf main_arg10
  let main_cst_22 : FVec F S_ .f32 := constant S_ .f32 0x7F800000#32
  let main_v74 : FVec F S128 .f32 := broadcastInDim S128 ![] bcast_S_S128 main_cst_22
  let main_v75 : IVec S128 1 := cmpf .olt main_v73 main_v74
  let main_c_23 : IVec S_ 1 := constantI S_ 1 1#1
  let main_v76 : IVec S_ 1 := (fun x v => Host.reduce IntOp.andi x v reducesTo_S128_S_d0 h_S_) main_v75 main_c_23
  let main_v77 : IVec S_ 1 := andi main_v72 main_v76
  main_v77

def fn_part3 {F : FTy → Type} [FloatOps F] (main_arg7 : FVec F S128 .f32) (main_arg8 : FVec F S128x128 .f32) (main_arg9 : FVec F S128 .f32) (main_arg10 : FVec F S128 .f32) (main_v52 : IVec S_ 1) (main_v53 : FVec F S128 .f32) (main_v54 : FVec F S128 .f32) : IVec S_ 1 :=
  let main_v55 : IVec S128 1 := cmpf .olt main_v53 main_v54
  let main_c_15 : IVec S_ 1 := constantI S_ 1 1#1
  let main_v56 : IVec S_ 1 := (fun x v => Host.reduce IntOp.andi x v reducesTo_S128_S_d0 h_S_) main_v55 main_c_15
  let main_v57 : IVec S_ 1 := andi main_v52 main_v56
  let main_v58 : FVec F S128 .f32 := Host.absf main_arg7
  let main_cst_16 : FVec F S_ .f32 := constant S_ .f32 0x7F800000#32
  let main_v59 : FVec F S128 .f32 := broadcastInDim S128 ![] bcast_S_S128 main_cst_16
  let main_v60 : IVec S128 1 := cmpf .olt main_v58 main_v59
  let main_c_17 : IVec S_ 1 := constantI S_ 1 1#1
  let main_v61 : IVec S_ 1 := (fun x v => Host.reduce IntOp.andi x v reducesTo_S128_S_d0 h_S_) main_v60 main_c_17
  let main_v62 : IVec S_ 1 := andi main_v57 main_v61
  let main_v63 : FVec F S128x128 .f32 := Host.absf main_arg8
  let main_cst_18 : FVec F S_ .f32 := constant S_ .f32 0x7F800000#32
  let main_v64 : FVec F S128x128 .f32 := broadcastInDim S128x128 ![] bcast_S_S128x128 main_cst_18
  let main_v65 : IVec S128x128 1 := cmpf .olt main_v63 main_v64
  let main_c_19 : IVec S_ 1 := constantI S_ 1 1#1
  let main_v66 : IVec S_ 1 := (fun x v => Host.reduce IntOp.andi x v reducesTo_S128x128_S_d0_1 h_S_) main_v65 main_c_19
  let main_v67 : IVec S_ 1 := andi main_v62 main_v66
  let main_v68 : FVec F S128 .f32 := Host.absf main_arg9
  let main_cst_20 : FVec F S_ .f32 := constant S_ .f32 0x7F800000#32
  let main_v69 : FVec F S128 .f32 := broadcastInDim S128 ![] bcast_S_S128 main_cst_20
  let main_v70 : IVec S128 1 := cmpf .olt main_v68 main_v69
  let main_c_21 : IVec S_ 1 := constantI S_ 1 1#1
  let main_v71 : IVec S_ 1 := (fun x v => Host.reduce IntOp.andi x v reducesTo_S128_S_d0 h_S_) main_v70 main_c_21
  fn_part4 (F := F) main_arg10 main_v67 main_v71

def fn_part2 {F : FTy → Type} [FloatOps F] (main_arg3 : FVec F S4x128x2048 .f32) (main_arg4 : FVec F S128x192 .f32) (main_arg5 : FVec F S128 .f32) (main_arg6 : FVec F S128 .f32) (main_arg7 : FVec F S128 .f32) (main_arg8 : FVec F S128x128 .f32) (main_arg9 : FVec F S128 .f32) (main_arg10 : FVec F S128 .f32) (main_v37 : IVec S_ 1) : IVec S_ 1 :=
  let main_v38 : FVec F S4x128x2048 .f32 := Host.absf main_arg3
  let main_cst_8 : FVec F S_ .f32 := constant S_ .f32 0x7F800000#32
  let main_v39 : FVec F S4x128x2048 .f32 := broadcastInDim S4x128x2048 ![] bcast_S_S4x128x2048 main_cst_8
  let main_v40 : IVec S4x128x2048 1 := cmpf .olt main_v38 main_v39
  let main_c_9 : IVec S_ 1 := constantI S_ 1 1#1
  let main_v41 : IVec S_ 1 := (fun x v => Host.reduce IntOp.andi x v reducesTo_S4x128x2048_S_d0_1_2 h_S_) main_v40 main_c_9
  let main_v42 : IVec S_ 1 := andi main_v37 main_v41
  let main_v43 : FVec F S128x192 .f32 := Host.absf main_arg4
  let main_cst_10 : FVec F S_ .f32 := constant S_ .f32 0x7F800000#32
  let main_v44 : FVec F S128x192 .f32 := broadcastInDim S128x192 ![] bcast_S_S128x192 main_cst_10
  let main_v45 : IVec S128x192 1 := cmpf .olt main_v43 main_v44
  let main_c_11 : IVec S_ 1 := constantI S_ 1 1#1
  let main_v46 : IVec S_ 1 := (fun x v => Host.reduce IntOp.andi x v reducesTo_S128x192_S_d0_1 h_S_) main_v45 main_c_11
  let main_v47 : IVec S_ 1 := andi main_v42 main_v46
  let main_v48 : FVec F S128 .f32 := Host.absf main_arg5
  let main_cst_12 : FVec F S_ .f32 := constant S_ .f32 0x7F800000#32
  let main_v49 : FVec F S128 .f32 := broadcastInDim S128 ![] bcast_S_S128 main_cst_12
  let main_v50 : IVec S128 1 := cmpf .olt main_v48 main_v49
  let main_c_13 : IVec S_ 1 := constantI S_ 1 1#1
  let main_v51 : IVec S_ 1 := (fun x v => Host.reduce IntOp.andi x v reducesTo_S128_S_d0 h_S_) main_v50 main_c_13
  let main_v52 : IVec S_ 1 := andi main_v47 main_v51
  let main_v53 : FVec F S128 .f32 := Host.absf main_arg6
  let main_cst_14 : FVec F S_ .f32 := constant S_ .f32 0x7F800000#32
  let main_v54 : FVec F S128 .f32 := broadcastInDim S128 ![] bcast_S_S128 main_cst_14
  fn_part3 (F := F) main_arg7 main_arg8 main_arg9 main_arg10 main_v52 main_v53 main_v54

def fn_part1 {F : FTy → Type} [FloatOps F] (main_arg0 : FVec F S4x3x8192 .f32) (main_arg1 : FVec F S4x3x2048 .f32) (main_arg2 : FVec F S4x64x8192 .f32) (main_arg3 : FVec F S4x128x2048 .f32) (main_arg4 : FVec F S128x192 .f32) (main_arg5 : FVec F S128 .f32) (main_arg6 : FVec F S128 .f32) (main_arg7 : FVec F S128 .f32) (main_arg8 : FVec F S128x128 .f32) (main_arg9 : FVec F S128 .f32) (main_arg10 : FVec F S128 .f32) (main_v19 : FVec F S4x8192x3 .f32) (main_v20 : FVec F S4x8192x3 .f32) : IVec S_ 1 :=
  let main_v21 : IVec S4x8192x3 1 := cmpf .olt main_v19 main_v20
  let main_c : IVec S_ 1 := constantI S_ 1 1#1
  let main_v22 : IVec S_ 1 := (fun x v => Host.reduce IntOp.andi x v reducesTo_S4x8192x3_S_d0_1_2 h_S_) main_v21 main_c
  let main_v23 : FVec F S4x3x8192 .f32 := Host.absf main_arg0
  let main_cst_2 : FVec F S_ .f32 := constant S_ .f32 0x7F800000#32
  let main_v24 : FVec F S4x3x8192 .f32 := broadcastInDim S4x3x8192 ![] bcast_S_S4x3x8192 main_cst_2
  let main_v25 : IVec S4x3x8192 1 := cmpf .olt main_v23 main_v24
  let main_c_3 : IVec S_ 1 := constantI S_ 1 1#1
  let main_v26 : IVec S_ 1 := (fun x v => Host.reduce IntOp.andi x v reducesTo_S4x3x8192_S_d0_1_2 h_S_) main_v25 main_c_3
  let main_v27 : IVec S_ 1 := andi main_v22 main_v26
  let main_v28 : FVec F S4x3x2048 .f32 := Host.absf main_arg1
  let main_cst_4 : FVec F S_ .f32 := constant S_ .f32 0x7F800000#32
  let main_v29 : FVec F S4x3x2048 .f32 := broadcastInDim S4x3x2048 ![] bcast_S_S4x3x2048 main_cst_4
  let main_v30 : IVec S4x3x2048 1 := cmpf .olt main_v28 main_v29
  let main_c_5 : IVec S_ 1 := constantI S_ 1 1#1
  let main_v31 : IVec S_ 1 := (fun x v => Host.reduce IntOp.andi x v reducesTo_S4x3x2048_S_d0_1_2 h_S_) main_v30 main_c_5
  let main_v32 : IVec S_ 1 := andi main_v27 main_v31
  let main_v33 : FVec F S4x64x8192 .f32 := Host.absf main_arg2
  let main_cst_6 : FVec F S_ .f32 := constant S_ .f32 0x7F800000#32
  let main_v34 : FVec F S4x64x8192 .f32 := broadcastInDim S4x64x8192 ![] bcast_S_S4x64x8192 main_cst_6
  let main_v35 : IVec S4x64x8192 1 := cmpf .olt main_v33 main_v34
  let main_c_7 : IVec S_ 1 := constantI S_ 1 1#1
  let main_v36 : IVec S_ 1 := (fun x v => Host.reduce IntOp.andi x v reducesTo_S4x64x8192_S_d0_1_2 h_S_) main_v35 main_c_7
  let main_v37 : IVec S_ 1 := andi main_v32 main_v36
  fn_part2 (F := F) main_arg3 main_arg4 main_arg5 main_arg6 main_arg7 main_arg8 main_arg9 main_arg10 main_v37

def fn {F : FTy → Type} [FloatOps F] (main_arg0 : FVec F S4x3x8192 .f32) (main_arg1 : FVec F S4x3x2048 .f32) (main_arg2 : FVec F S4x64x8192 .f32) (main_arg3 : FVec F S4x128x2048 .f32) (main_arg4 : FVec F S128x192 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) : IVec S_ 1 :=
  let main_v0 : FVec F S4x8192x3 .f32 := (transpose S4x8192x3 [0, 2, 1] · transposes_S4x3x8192_S4x8192x3_0_2_1) main_arg0
  let main_v1 : FVec F S4x2048x3 .f32 := (transpose S4x2048x3 [0, 2, 1] · transposes_S4x3x2048_S4x2048x3_0_2_1) main_arg1
  let main_v2 : FVec F S4x3x2048 .f32 := (transpose S4x3x2048 [0, 2, 1] · transposes_S4x2048x3_S4x3x2048_0_2_1) main_v1
  let main_v3 : FVec F S4x8192x2048 .f32 := (fun l r => Host.dotGeneral dot_S4x8192x3_S4x3x2048_S4x8192x2048_2_1_1_2_0_0 none l r) main_v0 main_v2
  let main_cst : FVec F S_ .f32 := constant S_ .f32 0xC0000000#32
  let main_v4 : FVec F S4x8192x2048 .f32 := broadcastInDim S4x8192x2048 ![] bcast_S_S4x8192x2048 main_cst
  let main_v5 : FVec F S4x8192x2048 .f32 := mulf main_v4 main_v3
  let main_v6 : FVec F S4x8192x3 .f32 := mulf main_v0 main_v0
  let main_cst_0 : FVec F S_ .f32 := constant S_ .f32 0x00000000#32
  let main_v7 : FVec F S4x8192 .f32 := (fun x v => Host.reduceAdd x v reducesTo_S4x8192x3_S4x8192_d2 h_S_) main_v6 main_cst_0
  let main_v8 : FVec F S4x8192x1 .f32 := broadcastInDim S4x8192x1 ![0, 1] bcast_S4x8192_S4x8192x1_0_1 main_v7
  let main_v9 : FVec F S4x8192x2048 .f32 := broadcastInDim S4x8192x2048 ![0, 1, 2] bcast_S4x8192x1_S4x8192x2048_0_1_2 main_v8
  let main_v10 : FVec F S4x8192x2048 .f32 := addf main_v5 main_v9
  let main_v11 : FVec F S4x2048x3 .f32 := mulf main_v1 main_v1
  let main_cst_1 : FVec F S_ .f32 := constant S_ .f32 0x00000000#32
  let main_v12 : FVec F S4x2048 .f32 := (fun x v => Host.reduceAdd x v reducesTo_S4x2048x3_S4x2048_d2 h_S_) main_v11 main_cst_1
  let main_v13 : FVec F S4x1x2048 .f32 := broadcastInDim S4x1x2048 ![0, 2] bcast_S4x2048_S4x1x2048_0_2 main_v12
  let main_v14 : FVec F S4x8192x2048 .f32 := broadcastInDim S4x8192x2048 ![0, 1, 2] bcast_S4x1x2048_S4x8192x2048_0_1_2 main_v13
  let main_v15 : FVec F S4x8192x2048 .f32 := addf main_v10 main_v14
  let main_v16 : IVec S4x8192x2048 32 := fn_argsort (F := F) main_v15
  let main_v17 : IVec S4x8192x4 32 := (extractStridedSlice S4x8192x4 ![0, 0, 0] · slices_S4x8192x2048_S4x8192x4_0_0_0) main_v16
  let main_v18 : FVec F S4x8192x4 .f32 := fn_take_along_axis (F := F) main_v15 main_v17
  let main_v19 : FVec F S4x8192x3 .f32 := (extractStridedSlice S4x8192x3 ![0, 0, 0] · slices_S4x8192x4_S4x8192x3_0_0_0) main_v18
  let main_v20 : FVec F S4x8192x3 .f32 := (extractStridedSlice S4x8192x3 ![0, 0, 1] · slices_S4x8192x4_S4x8192x3_0_0_1) main_v18
  fn_part1 (F := F) main_arg0 main_arg1 main_arg2 main_arg3 main_arg4 main_arg5 main_arg6 main_arg7 main_arg8 main_arg9 main_arg10 main_v19 main_v20
-- ==== Kernel.lean ====
abbrev S4x3x8192 : Shape := ⟨3, ![4, 3, 8192]⟩
abbrev S4x3x2048 : Shape := ⟨3, ![4, 3, 2048]⟩
abbrev S4x64x8192 : Shape := ⟨3, ![4, 64, 8192]⟩
abbrev S4x128x2048 : Shape := ⟨3, ![4, 128, 2048]⟩
abbrev S128x192 : Shape := ⟨2, ![128, 192]⟩
abbrev S128 : Shape := ⟨1, ![128]⟩
abbrev S128x128 : Shape := ⟨2, ![128, 128]⟩
abbrev S_ : Shape := ⟨0, ![]⟩
abbrev S4x8x8192 : Shape := ⟨3, ![4, 8, 8192]⟩
abbrev S4x2048x3 : Shape := ⟨3, ![4, 2048, 3]⟩
abbrev S4x128x8192 : Shape := ⟨3, ![4, 128, 8192]⟩
abbrev S4x2048x128 : Shape := ⟨3, ![4, 2048, 128]⟩
abbrev S4x2048 : Shape := ⟨2, ![4, 2048]⟩
abbrev S4x2048x1 : Shape := ⟨3, ![4, 2048, 1]⟩
abbrev S128x256 : Shape := ⟨2, ![128, 256]⟩
abbrev S128x1 : Shape := ⟨2, ![128, 1]⟩
abbrev S1x8x1024 : Shape := ⟨3, ![1, 8, 1024]⟩
abbrev S1x128x1024 : Shape := ⟨3, ![1, 128, 1024]⟩
abbrev S1x2048x128 : Shape := ⟨3, ![1, 2048, 128]⟩
abbrev S1x2048x1 : Shape := ⟨3, ![1, 2048, 1]⟩
abbrev S1x64x1024 : Shape := ⟨3, ![1, 64, 1024]⟩
abbrev S1x128x2048 : Shape := ⟨3, ![1, 128, 2048]⟩
abbrev S8x1024 : Shape := ⟨2, ![8, 1024]⟩
abbrev S2048x128 : Shape := ⟨2, ![2048, 128]⟩
abbrev S128x1024 : Shape := ⟨2, ![128, 1024]⟩
abbrev S2048x1024 : Shape := ⟨2, ![2048, 1024]⟩
abbrev S1x1024 : Shape := ⟨2, ![1, 1024]⟩
abbrev S2048x1 : Shape := ⟨2, ![2048, 1]⟩
abbrev S1024 : Shape := ⟨1, ![1024]⟩
abbrev S128x2048 : Shape := ⟨2, ![128, 2048]⟩
abbrev S64x1024 : Shape := ⟨2, ![64, 1024]⟩
abbrev S256x1024 : Shape := ⟨2, ![256, 1024]⟩

abbrev nBuf : Space → Nat
  | .hbm => 48
  | .vmem => 40
  | .smem => 0
  | _ => 0

abbrev bufTy : (tb : Table) → Fin (tcTables nBuf tb) → BufTy
  | .hbm, ⟨0, _⟩ => ⟨S4x3x8192, .f32⟩
  | .hbm, ⟨1, _⟩ => ⟨S4x3x2048, .f32⟩
  | .hbm, ⟨2, _⟩ => ⟨S4x64x8192, .f32⟩
  | .hbm, ⟨3, _⟩ => ⟨S4x128x2048, .f32⟩
  | .hbm, ⟨4, _⟩ => ⟨S128x192, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .i32⟩
  | .hbm, ⟨13, _⟩ => ⟨S_, .f32⟩
  | .hbm, ⟨14, _⟩ => ⟨S4x8x8192, .f32⟩
  | .hbm, ⟨15, _⟩ => ⟨S4x2048x3, .f32⟩
  | .hbm, ⟨16, _⟩ => ⟨S4x3x8192, .bf16⟩
  | .hbm, ⟨17, _⟩ => ⟨S_, .i32⟩
  | .hbm, ⟨18, _⟩ => ⟨S_, .bf16⟩
  | .hbm, ⟨19, _⟩ => ⟨S4x128x8192, .bf16⟩
  | .hbm, ⟨20, _⟩ => ⟨S4x2048x3, .bf16⟩
  | .hbm, ⟨21, _⟩ => ⟨S_, .i32⟩
  | .hbm, ⟨22, _⟩ => ⟨S_, .bf16⟩
  | .hbm, ⟨23, _⟩ => ⟨S4x2048x128, .bf16⟩
  | .hbm, ⟨24, _⟩ => ⟨S4x2048x3, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S4x128x2048, .bf16⟩
  | .hbm, ⟨29, _⟩ => ⟨S4x128x2048, .f32⟩
  | .hbm, ⟨30, _⟩ => ⟨S4x128x2048, .f32⟩
  | .hbm, ⟨31, _⟩ => ⟨S4x128x2048, .bf16⟩
  | .hbm, ⟨32, _⟩ => ⟨S_, .i32⟩
  | .hbm, ⟨33, _⟩ => ⟨S_, .f32⟩
  | .hbm, ⟨34, _⟩ => ⟨S128x256, .f32⟩
  | .hbm, ⟨35, _⟩ => ⟨S128x1, .f32⟩
  | .hbm, ⟨36, _⟩ => ⟨S4x128x8192, .f32⟩
  | .hbm, ⟨37, _⟩ => ⟨S128x1, .f32⟩
  | .hbm, ⟨38, _⟩ => ⟨S128x1, .f32⟩
  | .hbm, ⟨39, _⟩ => ⟨S128x1, .f32⟩
  | .hbm, ⟨40, _⟩ => ⟨S128x1, .f32⟩
  | .hbm, ⟨41, _⟩ => ⟨S128x1, .f32⟩
  | .hbm, ⟨42, _⟩ => ⟨S4x128x8192, .f32⟩
  | .hbm, ⟨43, _⟩ => ⟨S128x1, .f32⟩
  | .hbm, ⟨44, _⟩ => ⟨S128x1, .f32⟩
  | .hbm, ⟨45, _⟩ => ⟨S128x1, .f32⟩
  | .hbm, ⟨46, _⟩ => ⟨S128x1, .f32⟩
  | .hbm, ⟨47, _⟩ => ⟨S4x128x8192, .f32⟩
  | .local _ .vmem, ⟨0, _⟩ => ⟨S1x8x1024, .f32⟩
  | .local _ .vmem, ⟨1, _⟩ => ⟨S1x8x1024, .f32⟩
  | .local _ .vmem, ⟨2, _⟩ => ⟨S1x128x1024, .bf16⟩
  | .local _ .vmem, ⟨3, _⟩ => ⟨S1x128x1024, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x1, .f32⟩
  | .local _ .vmem, ⟨7, _⟩ => ⟨S1x2048x1, .f32⟩
  | .local _ .vmem, ⟨8, _⟩ => ⟨S1x64x1024, .f32⟩
  | .local _ .vmem, ⟨9, _⟩ => ⟨S1x64x1024, .f32⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S128x256, .f32⟩
  | .local _ .vmem, ⟨15, _⟩ => ⟨S128x1, .f32⟩
  | .local _ .vmem, ⟨16, _⟩ => ⟨S1x128x1024, .f32⟩
  | .local _ .vmem, ⟨17, _⟩ => ⟨S1x128x1024, .f32⟩
  | .local _ .vmem, ⟨18, _⟩ => ⟨S128x1, .f32⟩
  | .local _ .vmem, ⟨19, _⟩ => ⟨S128x1, .f32⟩
  | .local _ .vmem, ⟨20, _⟩ => ⟨S1x128x2048, .f32⟩
  | .local _ .vmem, ⟨21, _⟩ => ⟨S1x128x2048, .f32⟩
  | .local _ .vmem, ⟨22, _⟩ => ⟨S128x1, .f32⟩
  | .local _ .vmem, ⟨23, _⟩ => ⟨S128x1, .f32⟩
  | .local _ .vmem, ⟨24, _⟩ => ⟨S128x1, .f32⟩
  | .local _ .vmem, ⟨25, _⟩ => ⟨S128x1, .f32⟩
  | .local _ .vmem, ⟨26, _⟩ => ⟨S128x128, .f32⟩
  | .local _ .vmem, ⟨27, _⟩ => ⟨S128x1, .f32⟩
  | .local _ .vmem, ⟨28, _⟩ => ⟨S1x128x2048, .f32⟩
  | .local _ .vmem, ⟨29, _⟩ => ⟨S1x128x2048, .f32⟩
  | .local _ .vmem, ⟨30, _⟩ => ⟨S128x1, .f32⟩
  | .local _ .vmem, ⟨31, _⟩ => ⟨S128x1, .f32⟩
  | .local _ .vmem, ⟨32, _⟩ => ⟨S1x128x2048, .f32⟩
  | .local _ .vmem, ⟨33, _⟩ => ⟨S1x128x2048, .f32⟩
  | .local _ .vmem, ⟨34, _⟩ => ⟨S128x1, .f32⟩
  | .local _ .vmem, ⟨35, _⟩ => ⟨S128x1, .f32⟩
  | .local _ .vmem, ⟨36, _⟩ => ⟨S128x1, .f32⟩
  | .local _ .vmem, ⟨37, _⟩ => ⟨S128x1, .f32⟩
  | .local _ .vmem, ⟨38, _⟩ => ⟨S1x128x2048, .f32⟩
  | .local _ .vmem, ⟨39, _⟩ => ⟨S1x128x2048, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_v4 : Ref sig .tc := ⟨.hbm, 20, rfl⟩
abbrev main_c_1 : Ref sig .tc := ⟨.hbm, 21, rfl⟩
abbrev main_call2_v0 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_call3_v0 : Ref sig .tc := ⟨.hbm, 33, rfl⟩
abbrev main_v13 : Ref sig .tc := ⟨.hbm, 34, rfl⟩
abbrev main_v14 : Ref sig .tc := ⟨.hbm, 35, rfl⟩
abbrev main_v15_0 : Ref sig .tc := ⟨.hbm, 36, rfl⟩
abbrev main_v15_1 : Ref sig .tc := ⟨.hbm, 37, rfl⟩
abbrev main_v15_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19_0 : Ref sig .tc := ⟨.hbm, 42, rfl⟩
abbrev main_v19_1 : Ref sig .tc := ⟨.hbm, 43, rfl⟩
abbrev main_v19_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg9_0 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29
abbrev cc1_sem8_0 : DmaSem sig := 30
abbrev cc1_sem9_0 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem3_0 : DmaSem sig := 36
abbrev cc2_sem4_0 : DmaSem sig := 37
abbrev cc2_sem5_0 : DmaSem sig := 38
abbrev cc2_sem5_1 : DmaSem sig := 39

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S128x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S4x3x8192 : Shape := ⟨3, ![4, 3, 8192]⟩
abbrev S4x3x2048 : Shape := ⟨3, ![4, 3, 2048]⟩
abbrev S4x64x8192 : Shape := ⟨3, ![4, 64, 8192]⟩
abbrev S4x128x2048 : Shape := ⟨3, ![4, 128, 2048]⟩
abbrev S128x192 : Shape := ⟨2, ![128, 192]⟩
abbrev S128 : Shape := ⟨1, ![128]⟩
abbrev S128x128 : Shape := ⟨2, ![128, 128]⟩
abbrev S4x8192x3 : Shape := ⟨3, ![4, 8192, 3]⟩
abbrev S4x2048x3 : Shape := ⟨3, ![4, 2048, 3]⟩
abbrev S4x2048x128 : Shape := ⟨3, ![4, 2048, 128]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x3x1 : Shape := ⟨4, ![4, 8192, 3, 1]⟩
abbrev S1 : Shape := ⟨1, ![1]⟩
abbrev S1x1x1x1 : Shape := ⟨4, ![1, 1, 1, 1]⟩
abbrev S4x8192x3x128 : Shape := ⟨4, ![4, 8192, 3, 128]⟩
abbrev S4x8192x128 : Shape := ⟨3, ![4, 8192, 128]⟩
abbrev S4x8192x64 : Shape := ⟨3, ![4, 8192, 64]⟩
abbrev S4x8192x192 : Shape := ⟨3, ![4, 8192, 192]⟩
abbrev S4x192x8192 : Shape := ⟨3, ![4, 192, 8192]⟩
abbrev S4x128x8192 : Shape := ⟨3, ![4, 128, 8192]⟩
abbrev S1x128x1 : Shape := ⟨3, ![1, 128, 1]⟩

abbrev nBuf : Space → Nat
  | .hbm => 190
  | .vmem => 0
  | .smem => 0
  | _ => 0

abbrev hbmTy0_0 (i : Nat) : BufTy := match i % 128 with
  | 0 => ⟨S4x3x8192, .f32⟩
  | 1 => ⟨S4x3x2048, .f32⟩
  | 2 => ⟨S4x64x8192, .f32⟩
  | 3 => ⟨S4x128x2048, .f32⟩
  | 4 => ⟨S128x192, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S4x8192x3, .f32⟩
  | 13 => ⟨S4x2048x3, .f32⟩
  | 14 => ⟨S4x2048x128, .f32⟩
  | 15 => ⟨S4x3x2048, .f32⟩
  | 16 => ⟨S4x8192x2048, .f32⟩
  | 17 => ⟨S_, .f32⟩
  | 18 => ⟨S4x8192x2048, .f32⟩
  | 19 => ⟨S4x8192x2048, .f32⟩
  | 20 => ⟨S4x8192x3, .f32⟩
  | 21 => ⟨S_, .f32⟩
  | 22 => ⟨S4x8192, .f32⟩
  | 23 => ⟨S4x8192x1, .f32⟩
  | 24 => ⟨S4x8192x2048, .f32⟩
  | 25 => ⟨S4x8192x2048, .f32⟩
  | 26 => ⟨S4x2048x3, .f32⟩
  | 27 => ⟨S_, .f32⟩
  | 28 => ⟨S4x2048, .f32⟩
  | 29 => ⟨S4x1x2048, .f32⟩
  | 30 => ⟨S4x8192x2048, .f32⟩
  | 31 => ⟨S4x8192x2048, .f32⟩
  | 32 => ⟨S4x8192x2048, .i32⟩
  | 33 => ⟨S4x8192x2048, .f32⟩
  | 34 => ⟨S4x8192x2048, .i32⟩
  | 35 => ⟨S4x8192x3, .i32⟩
  | 36 => ⟨S_, .i32⟩
  | 37 => ⟨S4x8192x3, .i32⟩
  | 38 => ⟨S4x8192x3, .i1⟩
  | 39 => ⟨S_, .i32⟩
  | 40 => ⟨S4x8192x3, .i32⟩
  | 41 => ⟨S4x8192x3, .i32⟩
  | 42 => ⟨S4x8192x3, .i32⟩
  | 43 => ⟨S4x8192x3x1, .i32⟩
  | 44 => ⟨S1, .i32⟩
  | 45 => ⟨S_, .i32⟩
  | 46 => ⟨S4x8192x3x1, .i32⟩
  | 47 => ⟨S4x8192x3x1, .i1⟩
  | 48 => ⟨S1x1x1x1, .i32⟩
  | 49 => ⟨S4x8192x3x1, .i32⟩
  | 50 => ⟨S4x8192x3x1, .i1⟩
  | 51 => ⟨S4x8192x3x1, .i1⟩
  | 52 => ⟨S_, .i1⟩
  | 53 => ⟨S4x8192x3, .i1⟩
  | 54 => ⟨S4x8192x3, .f32⟩
  | 55 => ⟨S_, .f32⟩
  | 56 => ⟨S4x8192x3, .f32⟩
  | 57 => ⟨S4x8192x3, .f32⟩
  | 58 => ⟨S_, .f32⟩
  | 59 => ⟨S4x8192x3, .f32⟩
  | 60 => ⟨S4x8192x3, .f32⟩
  | 61 => ⟨S_, .f32⟩
  | 62 => ⟨S4x8192x3, .f32⟩
  | 63 => ⟨S4x8192x3, .f32⟩
  | 64 => ⟨S_, .f32⟩
  | 65 => ⟨S4x8192, .f32⟩
  | 66 => ⟨S4x8192x1, .f32⟩
  | 67 => ⟨S4x8192x3, .f32⟩
  | 68 => ⟨S4x8192x3, .f32⟩
  | 69 => ⟨S_, .i32⟩
  | 70 => ⟨S4x8192x3, .i32⟩
  | 71 => ⟨S4x8192x3, .i1⟩
  | 72 => ⟨S_, .i32⟩
  | 73 => ⟨S4x8192x3, .i32⟩
  | 74 => ⟨S4x8192x3, .i32⟩
  | 75 => ⟨S4x8192x3, .i32⟩
  | 76 => ⟨S4x8192x3x1, .i32⟩
  | 77 => ⟨S4x8192x3x128, .f32⟩
  | 78 => ⟨S4x8192x3x1, .f32⟩
  | 79 => ⟨S4x8192x3x128, .f32⟩
  | 80 => ⟨S4x8192x3x128, .f32⟩
  | 81 => ⟨S_, .f32⟩
  | 82 => ⟨S4x8192x128, .f32⟩
  | 83 => ⟨S4x8192x64, .f32⟩
  | 84 => ⟨S4x8192x192, .f32⟩
  | 85 => ⟨S4x192x8192, .f32⟩
  | 86 => ⟨S4x8192x128, .f32⟩
  | 87 => ⟨S4x128x8192, .f32⟩
  | 88 => ⟨S1x128x1, .f32⟩
  | 89 => ⟨S4x128x8192, .f32⟩
  | 90 => ⟨S4x128x8192, .f32⟩
  | 91 => ⟨S_, .f32⟩
  | 92 => ⟨S128, .f32⟩
  | 93 => ⟨S1x128x1, .f32⟩
  | 94 => ⟨S_, .f32⟩
  | 95 => ⟨S1x128x1, .f32⟩
  | 96 => ⟨S1x128x1, .f32⟩
  | 97 => ⟨S_, .i32⟩
  | 98 => ⟨S_, .f32⟩
  | 99 => ⟨S128, .f32⟩
  | 100 => ⟨S1x128x1, .f32⟩
  | 101 => ⟨S_, .f32⟩
  | 102 => ⟨S1x128x1, .f32⟩
  | 103 => ⟨S1x128x1, .f32⟩
  | 104 => ⟨S4x128x8192, .f32⟩
  | 105 => ⟨S4x128x8192, .f32⟩
  | 106 => ⟨S4x128x8192, .f32⟩
  | 107 => ⟨S_, .f32⟩
  | 108 => ⟨S_, .f32⟩
  | 109 => ⟨S_, .f32⟩
  | 110 => ⟨S_, .f32⟩
  | 111 => ⟨S128, .f32⟩
  | 112 => ⟨S1x128x1, .f32⟩
  | 113 => ⟨S1x128x1, .f32⟩
  | 114 => ⟨S1x128x1, .f32⟩
  | 115 => ⟨S_, .f32⟩
  | 116 => ⟨S_, .i1⟩
  | 117 => ⟨S_, .f32⟩
  | 118 => ⟨S_, .f32⟩
  | 119 => ⟨S1x128x1, .f32⟩
  | 120 => ⟨S1x128x1, .f32⟩
  | 121 => ⟨S1x128x1, .f32⟩
  | 122 => ⟨S4x128x8192, .f32⟩
  | 123 => ⟨S4x128x8192, .f32⟩
  | 124 => ⟨S4x128x8192, .f32⟩
  | 125 => ⟨S4x128x8192, .f32⟩
  | 126 => ⟨S_, .f32⟩
  | 127 => ⟨S1x128x1, .f32⟩
  | _ => ⟨S4x3x8192, .f32⟩

abbrev hbmTy0_1 (i : Nat) : BufTy := match i % 128 with
  | 0 => ⟨S1x128x1, .f32⟩
  | 1 => ⟨S1x128x1, .f32⟩
  | 2 => ⟨S4x128x8192, .f32⟩
  | 3 => ⟨S4x128x8192, .f32⟩
  | 4 => ⟨S1x128x1, .f32⟩
  | 5 => ⟨S4x128x8192, .f32⟩
  | 6 => ⟨S4x128x8192, .f32⟩
  | 7 => ⟨S_, .f32⟩
  | 8 => ⟨S4x128x8192, .f32⟩
  | 9 => ⟨S4x128x8192, .f32⟩
  | 10 => ⟨S4x8192x128, .f32⟩
  | 11 => ⟨S4x128x8192, .f32⟩
  | 12 => ⟨S1x128x1, .f32⟩
  | 13 => ⟨S4x128x8192, .f32⟩
  | 14 => ⟨S4x128x8192, .f32⟩
  | 15 => ⟨S_, .f32⟩
  | 16 => ⟨S128, .f32⟩
  | 17 => ⟨S1x128x1, .f32⟩
  | 18 => ⟨S_, .f32⟩
  | 19 => ⟨S1x128x1, .f32⟩
  | 20 => ⟨S1x128x1, .f32⟩
  | 21 => ⟨S_, .i32⟩
  | 22 => ⟨S_, .f32⟩
  | 23 => ⟨S128, .f32⟩
  | 24 => ⟨S1x128x1, .f32⟩
  | 25 => ⟨S_, .f32⟩
  | 26 => ⟨S1x128x1, .f32⟩
  | 27 => ⟨S1x128x1, .f32⟩
  | 28 => ⟨S4x128x8192, .f32⟩
  | 29 => ⟨S4x128x8192, .f32⟩
  | 30 => ⟨S4x128x8192, .f32⟩
  | 31 => ⟨S_, .f32⟩
  | 32 => ⟨S_, .f32⟩
  | 33 => ⟨S_, .f32⟩
  | 34 => ⟨S_, .f32⟩
  | 35 => ⟨S128, .f32⟩
  | 36 => ⟨S1x128x1, .f32⟩
  | 37 => ⟨S1x128x1, .f32⟩
  | 38 => ⟨S1x128x1, .f32⟩
  | 39 => ⟨S_, .f32⟩
  | 40 => ⟨S_, .i1⟩
  | 41 => ⟨S_, .f32⟩
  | 42 => ⟨S_, .f32⟩
  | 43 => ⟨S1x128x1, .f32⟩
  | 44 => ⟨S1x128x1, .f32⟩
  | 45 => ⟨S1x128x1, .f32⟩
  | 46 => ⟨S4x128x8192, .f32⟩
  | 47 => ⟨S4x128x8192, .f32⟩
  | 48 => ⟨S4x128x8192, .f32⟩
  | 49 => ⟨S4x128x8192, .f32⟩
  | 50 => ⟨S_, .f32⟩
  | 51 => ⟨S1x128x1, .f32⟩
  | 52 => ⟨S1x128x1, .f32⟩
  | 53 => ⟨S1x128x1, .f32⟩
  | 54 => ⟨S4x128x8192, .f32⟩
  | 55 => ⟨S4x128x8192, .f32⟩
  | 56 => ⟨S1x128x1, .f32⟩
  | 57 => ⟨S4x128x8192, .f32⟩
  | 58 => ⟨S4x128x8192, .f32⟩
  | 59 => ⟨S_, .f32⟩
  | 60 => ⟨S4x128x8192, .f32⟩
  | 61 => ⟨S4x128x8192, .f32⟩
  | _ => ⟨S4x3x8192, .f32⟩

abbrev hbmTy (i : Nat) : BufTy := match i / 128 with
  | 0 => hbmTy0_0 i
  | 1 => hbmTy0_1 i
  | _ => ⟨S4x3x8192, .f32⟩

abbrev bufTy : (tb : Table) → Fin (tcTables nBuf tb) → BufTy
  | .hbm, ⟨i, _⟩ => hbmTy i
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_call0_v1_0 : Ref sig .tc := ⟨.hbm, 33, rfl⟩
abbrev main_v17 : Ref sig .tc := ⟨.hbm, 34, rfl⟩
abbrev main_v18 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v19 : Ref sig .tc := ⟨.hbm, 57, rfl⟩
abbrev main_cst_2 : Ref sig .tc := ⟨.hbm, 58, rfl⟩
abbrev main_v20 : Ref sig .tc := ⟨.hbm, 59, rfl⟩
abbrev main_v21 : Ref sig .tc := ⟨.hbm, 60, rfl⟩
abbrev main_cst_3 : Ref sig .tc := ⟨.hbm, 61, rfl⟩
abbrev main_v22 : Ref sig .tc := ⟨.hbm, 62, rfl⟩
abbrev main_v23 : Ref sig .tc := ⟨.hbm, 63, rfl⟩
abbrev main_cst_4 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_c : Ref sig .tc := ⟨.hbm, 69, rfl⟩
abbrev main_v28 : Ref sig .tc := ⟨.hbm, 70, rfl⟩
abbrev main_v29 : Ref sig .tc := ⟨.hbm, 71, rfl⟩
abbrev main_c_5 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_6 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_7 : Ref sig .tc := ⟨.hbm, 91, rfl⟩
abbrev main_v47 : Ref sig .tc := ⟨.hbm, 92, rfl⟩
abbrev main_v48 : Ref sig .tc := ⟨.hbm, 93, rfl⟩
abbrev main_cst_8 : Ref sig .tc := ⟨.hbm, 94, rfl⟩
abbrev main_v49 : Ref sig .tc := ⟨.hbm, 95, rfl⟩
abbrev main_v50 : Ref sig .tc := ⟨.hbm, 96, rfl⟩
abbrev main_c_9 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_cst_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_v7 : Ref sig .tc := ⟨.hbm, 107, rfl⟩
abbrev main_call2_cst_1 : Ref sig .tc := ⟨.hbm, 108, rfl⟩
abbrev main_call2_v8 : Ref sig .tc := ⟨.hbm, 109, rfl⟩
abbrev main_call2_cst_2 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_v12 : Ref sig .tc := ⟨.hbm, 114, rfl⟩
abbrev main_call2_cst_3 : Ref sig .tc := ⟨.hbm, 115, rfl⟩
abbrev main_call2_v13 : Ref sig .tc := ⟨.hbm, 116, rfl⟩
abbrev main_call2_cst_4 : Ref sig .tc := ⟨.hbm, 117, rfl⟩
abbrev main_call2_call0_v0 : Ref sig .tc := ⟨.hbm, 118, rfl⟩
abbrev main_call2_call0_v1 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_cst_10 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_call3_cst : Ref sig .tc := ⟨.hbm, 135, rfl⟩
abbrev main_call3_v0 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_cst_11 : Ref sig .tc := ⟨.hbm, 143, rfl⟩
abbrev main_v71 : Ref sig .tc := ⟨.hbm, 144, rfl⟩
abbrev main_v72 : Ref sig .tc := ⟨.hbm, 145, rfl⟩
abbrev main_cst_12 : Ref sig .tc := ⟨.hbm, 146, rfl⟩
abbrev main_v73 : Ref sig .tc := ⟨.hbm, 147, rfl⟩
abbrev main_v74 : Ref sig .tc := ⟨.hbm, 148, rfl⟩
abbrev main_c_13 : Ref sig .tc := ⟨.hbm, 149, rfl⟩
abbrev main_call4_cst : Ref sig .tc := ⟨.hbm, 150, rfl⟩
abbrev main_call4_v0 : Ref sig .tc := ⟨.hbm, 151, rfl⟩
abbrev main_call4_v1 : Ref sig .tc := ⟨.hbm, 152, rfl⟩
abbrev main_call4_cst_0 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_v6 : Ref sig .tc := ⟨.hbm, 158, rfl⟩
abbrev main_call4_v7 : Ref sig .tc := ⟨.hbm, 159, rfl⟩
abbrev main_call4_cst_1 : Ref sig .tc := ⟨.hbm, 160, rfl⟩
abbrev main_call4_v8 : Ref sig .tc := ⟨.hbm, 161, rfl⟩
abbrev main_call4_cst_2 : Ref sig .tc := ⟨.hbm, 162, rfl⟩
abbrev main_call4_v9 : Ref sig .tc := ⟨.hbm, 163, rfl⟩
abbrev main_call4_v10 : Ref sig .tc := ⟨.hbm, 164, rfl⟩
abbrev main_call4_v11 : Ref sig .tc := ⟨.hbm, 165, rfl⟩
abbrev main_call4_v12 : Ref sig .tc := ⟨.hbm, 166, rfl⟩
abbrev main_call4_cst_3 : Ref sig .tc := ⟨.hbm, 167, rfl⟩
abbrev main_call4_v13 : Ref sig .tc := ⟨.hbm, 168, rfl⟩
abbrev main_call4_cst_4 : Ref sig .tc := ⟨.hbm, 169, rfl⟩
abbrev main_call4_call0_v0 : Ref sig .tc := ⟨.hbm, 170, rfl⟩
abbrev main_call4_call0_v1 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_cst_14 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_call5_cst : Ref sig .tc := ⟨.hbm, 187, rfl⟩
abbrev main_call5_v0 : Ref sig .tc := ⟨.hbm, 188, rfl⟩
abbrev main_v89 : Ref sig .tc := ⟨.hbm, 189, rfl⟩

abbrev nD : Nat := 1
abbrev τ : Topo := Topo.v7x

variable {F : FTy → Type} [FloatOps F]
-- ==== Proof.KernelRun.lean ====
/- The kernel's run, read at every array of the memory outside the stages' own scratch: the last boundary's contents. -/
module

public import proofs.«01_k».proof.Proof.Gen.KernelIdeal.Frame

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run ends with every array at the last boundary's contents. -/
theorem run : θ_run defs (onTc (τ := τ) (main (F := F))) ⟨m, fun _ => 0, ρ⟩ (fun r => ∀ c : Dev nD,
    ∀ b ∈ Pipeline.ucRefs τ sig, r.2.mem (((c : Thread nD τ)).1, b) = W14 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by refine ⟨?_, ?_, ?_, ?_, ?_, ?_, ?_, ?_, ?_, ?_, ?_, ?_, ?_, ?_, ?_⟩ <;> exact fun _ => .rfl)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ => h)

end Cert.KernelRun

end
-- ==== Proof.Reals.lean ====
/-
  REAL NUMBERS AMONG THE EXTENDED REALS: sums and quotients of reals, and what the bit patterns of the programs' constants denote.
-/
module

public import Idealize.ShloMosaic.Lib.Pointwise

@[expose] public section

noncomputable section

namespace Cert.Reals

open Idealize.ShloMosaic

/-- The small constant under the square root, as the program's bit pattern denotes it. -/
def eps : ℝ := 10995116 / 1099511627776

/-- What is added to a variance is positive. -/
theorem eps_pos : 0 < eps := by unfold eps; norm_num

/-- The bit pattern of the constant under the square root. -/
theorem ofBits_eps : Ideal.ofBits .f32 0x3727C5AC#32 = (eps : EReal) := by
  unfold eps
  simp [Ideal.ofBits, Ideal.ieee, -EReal.coe_mul]
  norm_num

/-- The bit pattern of 2⁻¹⁵, the reciprocal of the number of points. -/
theorem ofBits_inv : Ideal.ofBits .f32 0x38000000#32 = ((1 / 32768 : ℝ) : EReal) := by
  simp [Ideal.ofBits, Ideal.ieee, -EReal.coe_mul]
  norm_num

/-- The bit pattern of 32768, the number of points. -/
theorem ofBits_count : Ideal.ofBits .f32 0x47000000#32 = ((32768 : ℝ) : EReal) := by
  simp [Ideal.ofBits, Ideal.ieee, -EReal.coe_mul]
  norm_num

/-- A quotient of reals whose divisor is not zero is the real quotient. -/
theorem div_real (x y : ℝ) (h : y ≠ 0) : Ideal.div (x : EReal) (y : EReal) = ((x / y : ℝ) : EReal) := by
  rw [Ideal.div_coe h, ← EReal.coe_mul, mul_one_div]

/-- A sum of reals, read as an extended real, is the sum of the extended reals. -/
theorem coe_sum {κ : Type} (s : Finset κ) (f : κ → ℝ) : ((∑ i ∈ s, f i : ℝ) : EReal) = ∑ i ∈ s, (f i : EReal) := by
  classical
  refine Finset.induction_on s (by simp) fun a t ha ih => ?_
  rw [Finset.sum_insert ha, Finset.sum_insert ha, EReal.coe_add, ih]

end Cert.Reals

end
-- ==== Proof.Norm.lean ====
/-
  BATCH NORMALISATION OVER 32768 REAL NUMBERS, TWICE. The kernel takes the mean and the mean of the squares, forms the variance
  as their difference, and applies one scale and one shift; the reference subtracts the mean, averages the squared differences and
  divides. Over real numbers both are the same number, and the offset that is added last may be any extended real.
-/
module

public import proofs.«01_k».proof.Proof.Reals

@[expose] public section

noncomputable section

namespace Cert.Norm

open Idealize.ShloMosaic Cert.Reals

variable {ι : Type} [Fintype ι]

/-- The mean of the 32768 numbers. -/
def mean (x : ι → ℝ) : ℝ := (∑ i, x i) / 32768

/-- The mean of the squared differences from the mean. -/
def var (x : ι → ℝ) : ℝ := (∑ i, (x i - mean x) * (x i - mean x)) / 32768

/-- A variance is at least zero. -/
theorem var_nonneg (x : ι → ℝ) : 0 ≤ var x :=
  div_nonneg (Finset.sum_nonneg fun i _ => mul_self_nonneg _) (by norm_num)

/-- The variance is the mean of the squares less the square of the mean. -/
theorem var_eq (x : ι → ℝ) (hN : Fintype.card ι = 32768) :
    (∑ i, x i * x i) * (1 / 32768) - mean x * mean x = var x := by
  have hs : ∑ i, x i = 32768 * mean x := by unfold mean; ring
  have : ∑ i, (x i - mean x) * (x i - mean x) = (∑ i, x i * x i) - 32768 * (mean x * mean x) := by
    have h1 : ∀ i, (x i - mean x) * (x i - mean x) = x i * x i - 2 * mean x * x i + mean x * mean x := fun i => by ring
    simp only [h1, Finset.sum_add_distrib, Finset.sum_sub_distrib, ← Finset.mul_sum, hs, Finset.sum_const, Finset.card_univ, hN]
    ring
  unfold var
  rw [this]; ring

/-- The standard deviation with the small constant added under the root. -/
def dev (x : ι → ℝ) : ℝ := Real.sqrt (var x + eps)

/-- A deviation is positive. -/
theorem dev_pos (x : ι → ℝ) : 0 < dev x := Real.sqrt_pos.mpr (add_pos_of_nonneg_of_pos (var_nonneg x) eps_pos)

/-- The root taken of an extended real is the deviation. -/
theorem sqrt_var (x : ι → ℝ) : Ideal.sqrt ((var x : EReal) + (eps : EReal)) = (dev x : EReal) := by
  rw [← EReal.coe_add, Ideal.sqrt_coe, if_neg (not_lt.mpr (add_nonneg (var_nonneg x) eps_pos.le))]
  rfl

/-- A number of the family, normalised, scaled by `g` and moved by `be`, no less than zero. -/
def normed (x : ι → ℝ) (g : ℝ) (be : EReal) (i : ι) : EReal := max (((g * (x i - mean x) / dev x : ℝ) : EReal) + be) 0

/-- The mean and the variance as the kernel forms them from the sum and the sum of the squares. -/
theorem kernel_mean (x : ι → ℝ) : (∑ i, (x i : EReal)) * ((1 / 32768 : ℝ) : EReal) = (mean x : EReal) := by
  rw [← coe_sum, ← EReal.coe_mul]; congr 1; unfold mean; ring

/-- The mean square less the squared mean is the variance. -/
theorem kernel_var (x : ι → ℝ) (hN : Fintype.card ι = 32768) :
    (∑ i, (x i : EReal) * (x i : EReal)) * ((1 / 32768 : ℝ) : EReal) - (mean x : EReal) * (mean x : EReal) = (var x : EReal) := by
  simp only [← EReal.coe_mul]
  rw [← coe_sum, ← EReal.coe_mul, ← EReal.coe_sub, var_eq x hN]

/-- What the kernel computes from the sum `s` and the sum of squares `ss`: scale times the number, plus shift, no less than zero. -/
def kernelForm (s ss g be u : EReal) : EReal :=
  let c : EReal := ((1 / 32768 : ℝ) : EReal)
  let mean := s * c
  let sc := Ideal.div g (Ideal.sqrt (ss * c - mean * mean + (eps : EReal)))
  max (sc * u + (be - sc * mean)) 0

/-- The kernel's scale and shift is the normalised number. -/
theorem kernelForm_eq (x : ι → ℝ) (hN : Fintype.card ι = 32768) (g : ℝ) (be : EReal) (i : ι) :
    kernelForm (∑ i, (x i : EReal)) (∑ i, (x i : EReal) * (x i : EReal)) (g : EReal) be (x i : EReal) = normed x g be i := by
  unfold kernelForm normed
  dsimp only
  rw [kernel_mean, kernel_var x hN, sqrt_var, div_real _ _ (dev_pos x).ne', ← EReal.coe_mul, ← EReal.coe_mul]
  congr 1
  rw [sub_eq_add_neg, ← EReal.coe_neg, add_comm be, ← add_assoc, ← EReal.coe_add]
  congr 2
  ring

/-- The mean and the variance as the reference forms them. -/
theorem reference_mean (x : ι → ℝ) : Ideal.div (∑ i, (x i : EReal)) ((32768 : ℝ) : EReal) = (mean x : EReal) := by
  rw [← coe_sum, div_real _ _ (by norm_num)]; rfl

/-- The mean of the squared differences is the variance. -/
theorem reference_var (x : ι → ℝ) :
    Ideal.div (∑ i, ((x i : EReal) - (mean x : EReal)) * ((x i : EReal) - (mean x : EReal))) ((32768 : ℝ) : EReal) = (var x : EReal) := by
  simp only [← EReal.coe_sub, ← EReal.coe_mul]
  rw [← coe_sum, div_real _ _ (by norm_num)]; rfl

/-- The reference's quotient is the normalised number. -/
theorem reference_eq (x : ι → ℝ) (g : ℝ) (be : EReal) (i : ι) :
    max (Ideal.div ((g : EReal) * ((x i : EReal) - (mean x : EReal))) (Ideal.sqrt ((var x : EReal) + (eps : EReal))) + be) 0
      = normed x g be i := by
  rw [sqrt_var, ← EReal.coe_sub, ← EReal.coe_mul, div_real _ _ (dev_pos x).ne']; rfl

/-- With a finite offset the normalised number is real. -/
def normedReal (x : ι → ℝ) (g be : ℝ) (i : ι) : ℝ := max (g * (x i - mean x) / dev x + be) 0

/-- With a real offset the normalised value is real. -/
theorem normed_coe (x : ι → ℝ) (g be : ℝ) (i : ι) : normed x g (be : EReal) i = (normedReal x g be i : EReal) := by
  unfold normed normedReal
  rw [← EReal.coe_add, ← EReal.coe_zero]
  exact (EReal.coe_strictMono.monotone.map_max).symm

end Cert.Norm

end
-- ==== Proof.Nearest.lean ====
/-
  THE THREE LEAST OF A FAMILY OF REAL NUMBERS. The kernel takes the least entry, replaces the entries equal to it by +∞, takes the
  least of what is left, and so a third time; where the three least entries are one each, the three minima are those entries and the
  weights placed by comparison fall on their three positions alone.
-/
module

public import proofs.«01_k».proof.Proof.Reals

@[expose] public section

noncomputable section

namespace Cert.Nearest

open Cert.Reals

variable {ι : Type} [Fintype ι] [DecidableEq ι]

/-- The least of a family of extended reals, +∞ over no member. -/
def least (f : ι → EReal) : EReal := Finset.univ.fold min ⊤ f

/-- A member no other member is below is the least. -/
theorem least_eq (f : ι → EReal) (a : ι) (h : ∀ i, f a ≤ f i) : least f = f a := by
  refine le_antisymm ?_ ?_
  · exact (Finset.le_fold_min (c := least f)).mp le_rfl |>.2 a (Finset.mem_univ a)
  · exact (Finset.le_fold_min (c := f a)).mpr ⟨le_top, fun i _ => h i⟩

/-- The family with every entry equal to `m` replaced by +∞. -/
def drop (f : ι → EReal) (m : EReal) (i : ι) : EReal := if f i = m then ⊤ else f i

/-- The weights placed by comparison with the three minima, the first that matches. -/
def weights (f : ι → EReal) (w0 w1 w2 : EReal) (i : ι) : EReal :=
  if f i = least f then w0
  else if drop f (least f) i = least (drop f (least f)) then w1
  else if drop (drop f (least f)) (least (drop f (least f))) i
      = least (drop (drop f (least f)) (least (drop f (least f)))) then w2
  else 0

/-- `a`, `b`, `c` are the positions of the three least entries, in order, each strictly below what follows. -/
structure Three (d : ι → ℝ) (a b c : ι) : Prop where
  ab : d a < d b
  bc : d b < d c
  rest : ∀ i, i ≠ a → i ≠ b → i ≠ c → d c < d i

namespace Three

variable {d : ι → ℝ} {a b c : ι} (h : Three d a b c)
include h

/-- The nearest and the second are different points. -/
theorem ne_ab : a ≠ b := fun e => (e ▸ h.ab).ne rfl
/-- The second and the third are different points. -/
theorem ne_bc : b ≠ c := fun e => (e ▸ h.bc).ne rfl
/-- The nearest and the third are different points. -/
theorem ne_ac : a ≠ c := fun e => (e ▸ (h.ab.trans h.bc)).ne rfl

/-- Every entry but the first is above the first. -/
theorem lt_a (i : ι) (hi : i ≠ a) : d a < d i := by
  by_cases hb : i = b
  · exact hb ▸ h.ab
  by_cases hc : i = c
  · exact hc ▸ h.ab.trans h.bc
  · exact (h.ab.trans h.bc).trans (h.rest i hi hb hc)

/-- Every entry but the first two is above the second. -/
theorem lt_b (i : ι) (hi : i ≠ a) (hb : i ≠ b) : d b < d i := by
  by_cases hc : i = c
  · exact hc ▸ h.bc
  · exact h.bc.trans (h.rest i hi hb hc)

/-- The first minimum. -/
theorem least0 : least (fun i => (d i : EReal)) = d a := by
  refine least_eq _ a fun i => EReal.coe_le_coe_iff.mpr ?_
  by_cases hi : i = a
  · exact hi ▸ le_rfl
  · exact (h.lt_a i hi).le

/-- Without its least entry the family is +∞ at that entry's position and unchanged elsewhere. -/
theorem drop0 (i : ι) : drop (fun i => (d i : EReal)) (d a) i = if i = a then ⊤ else (d i : EReal) := by
  unfold drop
  by_cases hi : i = a
  · rw [if_pos (by rw [hi]), if_pos hi]
  · rw [if_neg (fun e => (h.lt_a i hi).ne' (EReal.coe_injective e)), if_neg hi]

/-- The second minimum. -/
theorem least1 : least (drop (fun i => (d i : EReal)) (d a)) = d b := by
  rw [least_eq _ b, h.drop0, if_neg h.ne_ab.symm]
  intro i
  rw [h.drop0, h.drop0, if_neg h.ne_ab.symm]
  by_cases hi : i = a
  · rw [if_pos hi]; exact le_top
  rw [if_neg hi, EReal.coe_le_coe_iff]
  by_cases hb : i = b
  · exact hb ▸ le_rfl
  · exact (h.lt_b i hi hb).le

/-- Without its two least entries the family is +∞ at their positions and unchanged elsewhere. -/
theorem drop1 (i : ι) :
    drop (drop (fun i => (d i : EReal)) (d a)) (d b) i = if i = a ∨ i = b then ⊤ else (d i : EReal) := by
  rw [drop, h.drop0]
  by_cases hi : i = a
  · rw [if_pos hi, if_neg (EReal.coe_ne_top _).symm, if_pos (Or.inl hi)]
  rw [if_neg hi]
  by_cases hb : i = b
  · rw [if_pos (by rw [hb]), if_pos (Or.inr hb)]
  · rw [if_neg (fun e => (h.lt_b i hi hb).ne' (EReal.coe_injective e)), if_neg (by tauto)]

/-- The third minimum. -/
theorem least2 : least (drop (drop (fun i => (d i : EReal)) (d a)) (d b)) = d c := by
  have hc : ¬(c = a ∨ c = b) := by rintro (e | e); exacts [h.ne_ac e.symm, h.ne_bc e.symm]
  rw [least_eq _ c, h.drop1, if_neg hc]
  intro i
  rw [h.drop1, h.drop1, if_neg hc]
  by_cases hi : i = a ∨ i = b
  · rw [if_pos hi]; exact le_top
  rw [if_neg hi, EReal.coe_le_coe_iff]
  by_cases h2 : i = c
  · exact h2 ▸ le_rfl
  · exact (h.rest i (fun e => hi (.inl e)) (fun e => hi (.inr e)) h2).le

/-- The weights fall on the three positions alone. -/
theorem weights_eq (w0 w1 w2 : EReal) (i : ι) :
    weights (fun i => (d i : EReal)) w0 w1 w2 i = if i = a then w0 else if i = b then w1 else if i = c then w2 else 0 := by
  unfold weights
  rw [h.least0, h.least1, h.least2, h.drop0, h.drop1]
  by_cases hi : i = a
  · rw [if_pos (by rw [hi]), if_pos hi]
  rw [if_neg (fun e => (h.lt_a i hi).ne' (EReal.coe_injective e)), if_neg hi, if_neg hi]
  by_cases hb : i = b
  · rw [if_pos (by rw [hb]), if_pos hb]
  rw [if_neg (fun e => (h.lt_b i hi hb).ne' (EReal.coe_injective e)), if_neg hb, if_neg (show ¬(i = a ∨ i = b) by tauto)]
  by_cases hc : i = c
  · rw [if_pos (by rw [hc]), if_pos hc]
  · rw [if_neg (fun e => (h.rest i hi hb hc).ne' (EReal.coe_injective e)), if_neg hc]

/-- A sum against the weights is the sum of three products. -/
theorem sum_weights (p : ι → ℝ) (w0 w1 w2 : ℝ) :
    ∑ i, (p i : EReal) * weights (fun i => (d i : EReal)) w0 w1 w2 i = ((p a * w0 + p b * w1 + p c * w2 : ℝ) : EReal) := by
  have hw : ∀ i, (p i : EReal) * weights (fun i => (d i : EReal)) w0 w1 w2 i
      = (((if i = a then p i * w0 else 0) + (if i = b then p i * w1 else 0) + (if i = c then p i * w2 else 0) : ℝ) : EReal) := by
    intro i
    rw [h.weights_eq]
    by_cases hi : i = a
    · subst hi; simp [h.ne_ab, h.ne_ac]
    by_cases hb : i = b
    · subst hb; simp [hi, h.ne_bc]
    by_cases hc : i = c
    · subst hc; simp [hi, hb]
    · simp [hi, hb, hc]
  rw [Finset.sum_congr rfl fun i _ => hw i]
  rw [← coe_sum]
  congr 1
  simp [Finset.sum_add_distrib]

end Three

end Cert.Nearest

end
-- ==== Proof.Point.lean ====
/-
  ONE QUERY POINT OVER THE REAL NUMBERS: the squared distance to a source point, the three shares the inverse distances give, the
  interpolated feature and the first layer's sum. Both programs are shown to compute these.
-/
module

public import proofs.«01_k».proof.Proof.Norm
public import proofs.«01_k».proof.Proof.Nearest

@[expose] public section

noncomputable section

namespace Cert.Point

open Idealize.ShloMosaic Cert.Reals Cert.Nearest Cert.Norm

/-- The small constant added to a squared distance before it is inverted. -/
def delta : ℝ := 11258999 / 1125899906842624

/-- What is added to a distance is positive. -/
theorem delta_pos : 0 < delta := by unfold delta; norm_num

/-- The word of what is added to a distance. -/
theorem ofBits_delta : Ideal.ofBits .f32 0x322BCC77#32 = (delta : EReal) := by
  unfold delta
  simp [Ideal.ofBits, Ideal.ieee, -EReal.coe_mul]
  norm_num

/-- The word of minus two. -/
theorem ofBits_neg_two : Ideal.ofBits .f32 0xC0000000#32 = ((-2 : ℝ) : EReal) := by
  simp [Ideal.ofBits, Ideal.ieee, -EReal.coe_mul]
  norm_num

/-- The word of infinity. -/
theorem ofBits_inf : Ideal.ofBits .f32 0x7F800000#32 = ⊤ := by
  simp [Ideal.ofBits, Ideal.ieee]

/-- The squared distance, expanded as both programs expand it. -/
def dist (x y : Fin 3 → ℝ) : ℝ := -2 * (∑ j, x j * y j) + (∑ j, x j * x j) + ∑ j, y j * y j

/-- A squared distance is at least zero. -/
theorem dist_nonneg (x y : Fin 3 → ℝ) : 0 ≤ dist x y := by
  have : dist x y = ∑ j, (x j - y j) * (x j - y j) := by
    unfold dist; simp only [Fin.sum_univ_three]; ring
  rw [this]
  exact Finset.sum_nonneg fun j _ => mul_self_nonneg _

/-- The inverse of a squared distance. -/
def recip (r : ℝ) : ℝ := 1 / (r + delta)

/-- A reciprocal is positive. -/
theorem recip_pos {r : ℝ} (h : 0 ≤ r) : 0 < recip r := one_div_pos.mpr (add_pos_of_nonneg_of_pos h delta_pos)

/-- The reciprocal taken of an extended real is the real one. -/
theorem recip_coe {r : ℝ} (h : 0 ≤ r) : Ideal.div 1 ((r : EReal) + (delta : EReal)) = (recip r : EReal) := by
  rw [← EReal.coe_add, ← EReal.coe_one, div_real _ _ (add_pos_of_nonneg_of_pos h delta_pos).ne']; rfl

/-- The share of one of three inverse distances. -/
def share (r r0 r1 r2 : ℝ) : ℝ := recip r / (recip r0 + recip r1 + recip r2)

/-- The share taken of extended reals is the real one. -/
theorem share_coe (r : ℝ) {r0 r1 r2 : ℝ} (h0 : 0 ≤ r0) (h1 : 0 ≤ r1) (h2 : 0 ≤ r2) :
    Ideal.div (recip r : EReal) ((recip r0 : EReal) + (recip r1 : EReal) + (recip r2 : EReal)) = (share r r0 r1 r2 : EReal) := by
  rw [← EReal.coe_add, ← EReal.coe_add, div_real _ _ (add_pos (add_pos (recip_pos h0) (recip_pos h1)) (recip_pos h2)).ne']; rfl

/-- The feature interpolated from the three source points `a`, `b`, `c` at squared distances `d`. -/
def interp {ι : Type} (d p : ι → ℝ) (a b c : ι) : ℝ :=
  p a * share (d a) (d a) (d b) (d c) + p b * share (d b) (d a) (d b) (d c) + p c * share (d c) (d a) (d b) (d c)

/-- What the kernel sums for one feature of one query point, from the squared distances `d` to every source point and the
    sources' features `p`, the features split into a leading and a trailing part. -/
def kernelInterp {ι : Type} [Fintype ι] (d p q : ι → EReal) : EReal :=
  let m0 := least d
  let d1 := drop d m0
  let m1 := least d1
  let d2 := drop d1 m1
  let m2 := least d2
  let r0 := Ideal.div 1 (m0 + (delta : EReal))
  let r1 := Ideal.div 1 (m1 + (delta : EReal))
  let r2 := Ideal.div 1 (m2 + (delta : EReal))
  let n := r0 + r1 + r2
  let w : ι → EReal := fun i => if d i = m0 then Ideal.div r0 n else if d1 i = m1 then Ideal.div r1 n else if d2 i = m2 then Ideal.div r2 n else 0
  (∑ i, p i * w i) + ∑ i, q i * w i

/-- Over reals whose three least distances are one each, the kernel's sum is the interpolated feature. -/
theorem kernelInterp_eq {ι : Type} [Fintype ι] [DecidableEq ι] (d p : ι → ℝ) (q : ι → EReal) (hd : ∀ i, 0 ≤ d i)
    (hq : ∀ i, q i = 0) (a b c : ι) (h : Three d a b c) :
    kernelInterp (fun i => (d i : EReal)) (fun i => (p i : EReal)) q = (interp d p a b c : EReal) := by
  unfold kernelInterp
  dsimp only
  rw [h.least0, h.least1, h.least2, recip_coe (hd a), recip_coe (hd b), recip_coe (hd c), share_coe _ (hd a) (hd b) (hd c),
    share_coe _ (hd a) (hd b) (hd c), share_coe _ (hd a) (hd b) (hd c)]
  simp only [hq, zero_mul, Finset.sum_const_zero, add_zero]
  have := h.sum_weights p (share (d a) (d a) (d b) (d c)) (share (d b) (d a) (d b) (d c)) (share (d c) (d a) (d b) (d c))
  unfold weights at this
  rw [h.least0, h.least1, h.least2] at this
  exact this

/-- A sum over a family continued by zeros is the sum over the family. -/
theorem sum_pad (n m : ℕ) (f : Fin n → EReal) : (∑ k : Fin (n + m), if h : k.val < n then f ⟨k.val, h⟩ else 0) = ∑ j, f j := by
  rw [Fin.sum_univ_add]
  simp

/-- The kernel's squared distance, over three coordinates continued by zeros to 128. -/
theorem kernel_dist (x y : Fin 3 → ℝ) (f : Fin 128 → EReal)
    (hf : ∀ k, f k = if h : k.val < 3 then (y ⟨k.val, h⟩ : EReal) * (x ⟨k.val, h⟩ : EReal) else 0) :
    ((-2 : ℝ) : EReal) * (∑ k, f k) + ((x 0 : EReal) * x 0 + (x 1 : EReal) * x 1 + (x 2 : EReal) * x 2) + (∑ j, (y j : EReal) * y j)
      = (dist x y : EReal) := by
  rw [Finset.sum_congr rfl fun k _ => hf k]
  rw [show (∑ k : Fin 128, if h : k.val < 3 then (y ⟨k.val, h⟩ : EReal) * (x ⟨k.val, h⟩ : EReal) else 0) = ∑ j, (y j : EReal) * (x j : EReal)
    from sum_pad 3 125 fun j => (y j : EReal) * (x j : EReal)]
  simp only [← EReal.coe_mul]
  rw [← coe_sum, ← coe_sum]
  simp only [← EReal.coe_mul, ← EReal.coe_add]
  congr 1
  unfold dist
  simp only [Fin.sum_univ_three]
  ring

/-- The reference's squared distance. -/
theorem reference_dist (x y : Fin 3 → ℝ) :
    ((-2 : ℝ) : EReal) * (∑ j, (x j : EReal) * y j) + (∑ j, (x j : EReal) * x j) + (∑ j, (y j : EReal) * y j) = (dist x y : EReal) := by
  simp only [← EReal.coe_mul]
  rw [← coe_sum, ← coe_sum, ← coe_sum]
  simp only [← EReal.coe_mul, ← EReal.coe_add]
  rfl

end Cert.Point

end
-- ==== Proof.Spec.lean ====
/- What both programs compute, over the reals: the channels of every query, two dense layers, each normalised over batches
   and columns. -/
module

public import proofs.«01_k».proof.Proof.Norm
public import proofs.«01_k».proof.Proof.Point

@[expose] public section

noncomputable section

namespace Cert.Spec

open Cert.Norm Cert.Point Cert.Nearest

/-- The arguments as numbers; the last offset may be infinite. -/
structure Inputs where
  x1 : Fin 4 → Fin 3 → Fin 8192 → ℝ
  x2 : Fin 4 → Fin 3 → Fin 2048 → ℝ
  h1 : Fin 4 → Fin 64 → Fin 8192 → ℝ
  h2 : Fin 4 → Fin 128 → Fin 2048 → ℝ
  w0 : Fin 128 → Fin 192 → ℝ
  b0 : Fin 128 → ℝ
  g0 : Fin 128 → ℝ
  be0 : Fin 128 → ℝ
  w1 : Fin 128 → Fin 128 → ℝ
  b1 : Fin 128 → ℝ
  g1 : Fin 128 → ℝ
  be1 : Fin 128 → EReal

variable (I : Inputs) (near : Fin 4 → Fin 8192 → Fin 3 → Fin 2048)

/-- The squared distance of query `l` of batch `a` to the point `m`. -/
def dists (a : Fin 4) (l : Fin 8192) (m : Fin 2048) : ℝ := Point.dist (fun r => I.x1 a r l) (fun r => I.x2 a r m)

/-- `near` names every query's three nearest points, nearest first, and no two points at the same distance among the
    nearest. -/
def Nearest3 : Prop := ∀ a l, Three (dists I a l) (near a l 0) (near a l 1) (near a l 2)

/-- The interpolated channel `f` of a query. -/
def interpolated (a : Fin 4) (l : Fin 8192) (f : Fin 128) : ℝ :=
  interp (dists I a l) (I.h2 a f) (near a l 0) (near a l 1) (near a l 2)

/-- A query's channels: its own, then the interpolated ones. -/
def channel (a : Fin 4) (l : Fin 8192) (k : Fin 192) : ℝ :=
  if h : k.val < 64 then I.h1 a ⟨k.val, h⟩ l else interpolated I near a l ⟨k.val - 64, by omega⟩

/-- The first dense layer. -/
def layer0 (o : Fin 128) (p : Fin 4 × Fin 8192) : ℝ := (∑ k, I.w0 o k * channel I near p.1 p.2 k) + I.b0 o

/-- The first layer normalised. -/
def hidden (o : Fin 128) (p : Fin 4 × Fin 8192) : ℝ := normedReal (layer0 I near o) (I.g0 o) (I.be0 o) p

/-- The second dense layer. -/
def layer1 (o : Fin 128) (p : Fin 4 × Fin 8192) : ℝ := (∑ k, I.w1 o k * hidden I near k p) + I.b1 o

/-- The result. -/
def out (o : Fin 128) (p : Fin 4 × Fin 8192) : EReal := normed (layer1 I near o) (I.g1 o) (I.be1 o) p

/-- The arrays, read at their coordinates, hold the numbers. -/
structure Reads (X1 : Fin 4 → Fin 3 → Fin 8192 → EReal) (X2 : Fin 4 → Fin 3 → Fin 2048 → EReal)
    (H1 : Fin 4 → Fin 64 → Fin 8192 → EReal) (H2 : Fin 4 → Fin 128 → Fin 2048 → EReal) (W0 : Fin 128 → Fin 192 → EReal)
    (B0 G0 Be0 : Fin 128 → EReal) (W1 : Fin 128 → Fin 128 → EReal) (B1 G1 Be1 : Fin 128 → EReal) : Prop where
  x1 : ∀ a r l, X1 a r l = (I.x1 a r l : EReal)
  x2 : ∀ a r n, X2 a r n = (I.x2 a r n : EReal)
  h1 : ∀ a k l, H1 a k l = (I.h1 a k l : EReal)
  h2 : ∀ a f n, H2 a f n = (I.h2 a f n : EReal)
  w0 : ∀ o k, W0 o k = (I.w0 o k : EReal)
  b0 : ∀ o, B0 o = (I.b0 o : EReal)
  g0 : ∀ o, G0 o = (I.g0 o : EReal)
  be0 : ∀ o, Be0 o = (I.be0 o : EReal)
  w1 : ∀ o k, W1 o k = (I.w1 o k : EReal)
  b1 : ∀ o, B1 o = (I.b1 o : EReal)
  g1 : ∀ o, G1 o = (I.g1 o : EReal)
  be1 : ∀ o, Be1 o = I.be1 o

/-- There are 32768 queries. -/
theorem card : Fintype.card (Fin 4 × Fin 8192) = 32768 := by simp

end Cert.Spec

end
-- ==== Proof.Hosts.lean ====
/- What the host lines before and between the stages leave in the arrays that the stages read, element by element. -/
module

public import proofs.«01_k».proof.Proof.Gen.KernelIdeal.Frame.Fold0
public import Idealize.ShloMosaic.Lib.Pipeline.ValueKit

@[expose] public section

set_option maxRecDepth 16384

noncomputable section

namespace Cert.Hosts

open Cert.KernelIdeal Cert.KernelIdeal.Gen Idealize.ShloMosaic Idealize.ShloMosaic.TcCoe Idealize.ShloMosaic.Pointwise
open Idealize.SL.Sem

variable (m : (ℓ : Loc nD τ sig) → Buf (Elt Ideal) ℓ) (ρ : Dev nD → PrngReg) (c : Dev nD)

/-- The padding: the integer zero, converted. -/
theorem zero_word (φ : FTy) : (FloatOps.sitofp φ (0#32) : Ideal φ) = (0 : EReal) := by
  change ((((0#32).toInt : ℤ) : ℝ) : EReal) = 0
  simp

/-! The arguments as the launch gives them. -/

/-- The queries' coordinates at launch. -/
abbrev xyz1 : S4x3x8192.Idx → EReal := m ((c : Thread nD τ).loc main_arg0)
/-- The points' coordinates at launch. -/
abbrev xyz2 : S4x3x2048.Idx → EReal := m ((c : Thread nD τ).loc main_arg1)
/-- The queries' own features at launch. -/
abbrev points1 : S4x64x8192.Idx → EReal := m ((c : Thread nD τ).loc main_arg2)
/-- The points' features at launch. -/
abbrev points2 : S4x128x2048.Idx → EReal := m ((c : Thread nD τ).loc main_arg3)
/-- The first layer's weights at launch. -/
abbrev w0 : S128x192.Idx → EReal := m ((c : Thread nD τ).loc main_arg4)
/-- The first layer's bias at launch. -/
abbrev b0 : S128.Idx → EReal := m ((c : Thread nD τ).loc main_arg5)
/-- The first layer's gain at launch. -/
abbrev g0 : S128.Idx → EReal := m ((c : Thread nD τ).loc main_arg6)
/-- The first layer's offset at launch. -/
abbrev be0 : S128.Idx → EReal := m ((c : Thread nD τ).loc main_arg7)
/-- The second layer's weights at launch. -/
abbrev w1 : S128x128.Idx → EReal := m ((c : Thread nD τ).loc main_arg8)
/-- The second layer's bias at launch. -/
abbrev b1 : S128.Idx → EReal := m ((c : Thread nD τ).loc main_arg9)
/-- The second layer's gain at launch. -/
abbrev g1 : S128.Idx → EReal := m ((c : Thread nD τ).loc main_arg10)
/-- The second layer's offset at launch. -/
abbrev be1 : S128.Idx → EReal := m ((c : Thread nD τ).loc main_arg11)

/-! What the first stage reads. -/

/-- The queries' three rows, padded to eight. -/
theorem rows (a : Fin 4) (r : Fin 8) (l : Fin 8192) :
    (V9 m ρ c main_v0 (ix3 a r l) : EReal) = if h : r.val < 3 then xyz1 m c (ix3 a ⟨r.val, h⟩ l) else 0 := by
  unfold_abbrev_sides
  after_results
  simp only [StableHlo.TRef.toBuf, StableHlo.TRef.ofBuf, cast_eq]
  pointwise
  simp only [zero_word]

/-- The queries' three rows, padded to 128. -/
theorem queries (a : Fin 4) (r : Fin 128) (l : Fin 8192) :
    (V9 m ρ c main_v3 (ix3 a r l) : EReal) = if h : r.val < 3 then xyz1 m c (ix3 a ⟨r.val, h⟩ l) else 0 := by
  unfold_abbrev_sides
  after_results
  simp only [StableHlo.TRef.toBuf, StableHlo.TRef.ofBuf, cast_eq]
  pointwise
  simp only [zero_word]

/-- The points' three coordinates, padded to 128. -/
theorem points (a : Fin 4) (n : Fin 2048) (r : Fin 128) :
    (V9 m ρ c main_v5 (ix3 a n r) : EReal) = if h : r.val < 3 then xyz2 m c (ix3 a ⟨r.val, h⟩ n) else 0 := by
  unfold_abbrev_sides
  after_results
  simp only [StableHlo.TRef.toBuf, StableHlo.TRef.ofBuf, cast_eq]
  pointwise
  simp only [zero_word]

/-- The points' squared lengths. -/
theorem lengths (a : Fin 4) (n : Fin 2048) :
    (V9 m ρ c main_v8 (ix3 a n 0) : EReal) = ∑ x : Fin 3, xyz2 m c (ix3 a x n) * xyz2 m c (ix3 a x n) := by
  unfold_abbrev_sides
  after_results
  pointwise

/-- The first part of the points' features: the features. -/
theorem features (i : S4x128x2048.Idx) : (V9 m ρ c main_v9 i : EReal) = points2 m c i := by
  unfold_abbrev_sides
  after_results
  rfl

/-- The second part of the points' features: what the first part leaves. -/
theorem remainder (i : S4x128x2048.Idx) : (V9 m ρ c main_v12 i : EReal) = points2 m c i - points2 m c i := by
  unfold_abbrev_sides
  after_results
  rfl

/-- The first weights, padded to 256 channels. -/
theorem weights (o : Fin 128) (k : Fin 256) :
    (V9 m ρ c main_v13 (ix2 o k) : EReal) = if h : k.val < 192 then w0 m c (ix2 o ⟨k.val, h⟩) else 0 := by
  unfold_abbrev_sides
  after_results
  simp only [StableHlo.TRef.toBuf, StableHlo.TRef.ofBuf, cast_eq]
  pointwise
  simp only [zero_word]

/-- The first kernel's bias is the first layer's. -/
theorem bias (o : Fin 128) : (V9 m ρ c main_v14 (ix2 o 0) : EReal) = b0 m c (ix1 o) := by
  unfold_abbrev_sides
  after_results
  pointwise

/-- The first kernel reads the queries' own features as they were. -/
theorem own : V9 m ρ c main_arg2 = points1 m c := W9_args m ρ c main_arg2 (by decide)

/-! What the later stages read besides the arrays of the stages before them. -/

/-- The second kernel's gain is the first layer's. -/
theorem gain0 (o : Fin 128) : (V11 m ρ c main_v16 (ix2 o 0) : EReal) = g0 m c (ix1 o) := by
  unfold_abbrev_sides
  after_results
  rw [W10_args m ρ c main_arg6 (by decide)]
  pointwise

/-- The second kernel's offset is the first layer's. -/
theorem offset0 (o : Fin 128) : (V11 m ρ c main_v17 (ix2 o 0) : EReal) = be0 m c (ix1 o) := by
  unfold_abbrev_sides
  after_results
  rw [W10_args m ρ c main_arg7 (by decide)]
  pointwise

/-- The second kernel's bias is the second layer's. -/
theorem bias1 (o : Fin 128) : (V11 m ρ c main_v18 (ix2 o 0) : EReal) = b1 m c (ix1 o) := by
  unfold_abbrev_sides
  after_results
  rw [W10_args m ρ c main_arg9 (by decide)]
  pointwise

/-- The second kernel reads the second layer's weights as they were. -/
theorem weights1 : V11 m ρ c main_arg8 = w1 m c := W11_args m ρ c main_arg8 (by decide)

/-- The third kernel's gain is the second layer's. -/
theorem gain1 (o : Fin 128) : (V13 m ρ c main_v20 (ix2 o 0) : EReal) = g1 m c (ix1 o) := by
  unfold_abbrev_sides
  after_results
  rw [W12_args m ρ c main_arg10 (by decide)]
  pointwise

/-- The third kernel's offset is the second layer's. -/
theorem offset1 (o : Fin 128) : (V13 m ρ c main_v21 (ix2 o 0) : EReal) = be1 m c (ix1 o) := by
  unfold_abbrev_sides
  after_results
  rw [W12_args m ρ c main_arg11 (by decide)]
  pointwise

end Cert.Hosts

end
-- ==== Proof.Front.lean ====
/- What one block of the first stage computes, read at an index: the squared distances, the three least of them, the
   interpolated features (`Cert.Point.kernelInterp`), and the first channel product. -/
module

public import proofs.«01_k».proof.Proof.Gen.KernelIdeal.Skeleton
public import proofs.«01_k».proof.Proof.Point
public import Idealize.ShloMosaic.Lib.Pointwise

@[expose] public section

set_option maxRecDepth 16384

noncomputable section

namespace Cert.Front

open Cert.KernelIdeal Cert.KernelIdeal.Gen Idealize.ShloMosaic Idealize.ShloMosaic.Pointwise Cert.Point Cert.Nearest Cert.Reals

variable (x : Vec Ideal S1x8x1024 .f32) (y : Vec Ideal S1x2048x128 .bf16) (z : Vec Ideal S1x128x1024 .bf16)
  (n : Vec Ideal S1x2048x1 .f32)

/-- The block's distance from source `m` to query `l`. -/
theorem distance (m : Fin 2048) (l : Fin 1024) :
    k0_pay7 x y z n (ix2 m l)
      = ((-2 : ℝ) : EReal) * (∑ k : Fin 128, y (ix3 0 m k) * z (ix3 0 k l))
        + (x (ix3 0 0 l) * x (ix3 0 0 l) + x (ix3 0 1 l) * x (ix3 0 1 l) + x (ix3 0 2 l) * x (ix3 0 2 l)) + n (ix3 0 m 0) := by
  pointwise [k0_pay7]
  simp only [ofBits_neg_two]

/-- The least distance of query `l`. -/
theorem first (l : Fin 1024) : k0_pay8 x y z n (ix2 0 l) = least fun m => k0_pay7 x y z n (ix2 m l) := by
  pointwise [k0_pay8]
  simp only [ofBits_inf]
  rfl

/-- The distances without the least. -/
theorem without_first (m : Fin 2048) (l : Fin 1024) :
    k0_pay10 x y z n (ix2 m l)
      = drop (fun m => k0_pay7 x y z n (ix2 m l)) (least fun m => k0_pay7 x y z n (ix2 m l)) m := by
  pointwise [k0_pay10, k0_pay9]
  simp only [ofBits_inf, first]
  rfl

/-- The second least distance of query `l`. -/
theorem second (l : Fin 1024) : k0_pay11 x y z n (ix2 0 l) = least fun m => k0_pay10 x y z n (ix2 m l) := by
  pointwise [k0_pay11]
  simp only [ofBits_inf]
  rfl

/-- The distances without the two least. -/
theorem without_second (m : Fin 2048) (l : Fin 1024) :
    k0_pay13 x y z n (ix2 m l)
      = drop (fun m => k0_pay10 x y z n (ix2 m l)) (least fun m => k0_pay10 x y z n (ix2 m l)) m := by
  pointwise [k0_pay13, k0_pay12]
  simp only [ofBits_inf, second]
  rfl

/-- The third least distance of query `l`. -/
theorem third (l : Fin 1024) : k0_pay14 x y z n (ix1 l) = least fun m => k0_pay13 x y z n (ix2 m l) := by
  pointwise [k0_pay14]
  simp only [ofBits_inf]
  rfl

/-- The interpolated feature `f` of query `l`. -/
theorem features (p q : Vec Ideal S1x128x2048 .bf16) (f : Fin 128) (l : Fin 1024) :
    k0_pay15 (k0_pay8 x y z n) (k0_pay9 x y z n) (k0_pay11 x y z n) (k0_pay12 x y z n) (k0_pay13 x y z n) (k0_pay14 x y z n)
        p q (ix2 f l)
      = kernelInterp (fun m => k0_pay7 x y z n (ix2 m l)) (fun m => p (ix3 0 f m)) (fun m => q (ix3 0 f m)) := by
  pointwise [k0_pay15, k0_pay9, k0_pay12]
  simp only [ofBits_delta, without_second, without_first, first, second, third]
  unfold kernelInterp
  rfl

/-- The first channels are the query's own features. -/
theorem points1 (p : Vec Ideal S1x64x1024 .f32) (k : Fin 64) (l : Fin 1024) : k0_pay16 p (ix2 k l) = p (ix3 0 k l) := by
  pointwise [k0_pay16]

/-- The channels past the last are zero. -/
theorem padding (k : Fin 64) (l : Fin 1024) : k0_pay17 (F := Ideal) (ix2 k l) = 0 := by
  pointwise [k0_pay17]

/-- The channels of one query: its own, the interpolated ones, and the padding. -/
def channels (a : Fin 64 → EReal) (f : Fin 128 → EReal) (c : Fin 64 → EReal) (k : Fin 256) : EReal :=
  if h : k.val < 64 then a ⟨k.val, h⟩ else if h' : k.val - 64 < 128 then f ⟨k.val - 64, h'⟩
    else c ⟨k.val - 64 - 128, by omega⟩

/-- The first channel product at channel `o` and query `l`. -/
theorem product (f : FVec Ideal S128x1024 .f32) (a c : FVec Ideal S64x1024 .f32) (w : Vec Ideal S128x256 .f32)
    (b : Vec Ideal S128x1 .f32) (o : Fin 128) (l : Fin 1024) :
    k0_pay1 f a c w b (ix2 o l)
      = (∑ k : Fin 256, w (ix2 o k) * channels (fun k => a (ix2 k l)) (fun k => f (ix2 k l)) (fun k => c (ix2 k l)) k)
        + b (ix2 o 0) := by
  unfold channels
  pointwise [k0_pay1]

/-- The block as it is stored. -/
theorem stored (f : FVec Ideal S128x1024 .f32) (a c : FVec Ideal S64x1024 .f32) (w : Vec Ideal S128x256 .f32)
    (b : Vec Ideal S128x1 .f32) (o : Fin 128) (l : Fin 1024) :
    k0_pay2 f a c w b (ix3 0 o l) = k0_pay1 f a c w b (ix2 o l) := by
  pointwise [k0_pay2]

/-- The sums start at zero. -/
theorem zero (o : Fin 128) : k0_pay3 (F := Ideal) (ix2 o 0) = 0 := by
  pointwise [k0_pay3]

/-- The sums of squares start at zero. -/
theorem zero' (o : Fin 128) : k0_pay4 (F := Ideal) (ix2 o 0) = 0 := by
  pointwise [k0_pay4]

/-- A channel's sum over the block, added to what was there. -/
theorem sum (f : FVec Ideal S128x1024 .f32) (a c : FVec Ideal S64x1024 .f32) (w : Vec Ideal S128x256 .f32)
    (b s : Vec Ideal S128x1 .f32) (o : Fin 128) :
    k0_pay5 f a c w b s (ix2 o 0) = s (ix2 o 0) + ∑ l : Fin 1024, k0_pay1 f a c w b (ix2 o l) := by
  pointwise [k0_pay5]

/-- A channel's sum of squares over the block, added to what was there. -/
theorem squares (f : FVec Ideal S128x1024 .f32) (a c : FVec Ideal S64x1024 .f32) (w : Vec Ideal S128x256 .f32)
    (b s : Vec Ideal S128x1 .f32) (o : Fin 128) :
    k0_pay6 f a c w b s (ix2 o 0)
      = s (ix2 o 0) + ∑ l : Fin 1024, k0_pay1 f a c w b (ix2 o l) * k0_pay1 f a c w b (ix2 o l) := by
  pointwise [k0_pay6]

end Cert.Front

end
-- ==== Proof.Stage.lean ====
/- What one block of the two dense stages computes, read at an index: the scale and shift of a channel by its sum
   and its sum of squares (`Cert.Norm.kernelForm`), the second channel product, and the sums over a block. -/
module

public import proofs.«01_k».proof.Proof.Gen.KernelIdeal.Skeleton
public import proofs.«01_k».proof.Proof.Norm
public import Idealize.ShloMosaic.Lib.Pointwise

@[expose] public section

set_option maxRecDepth 16384

noncomputable section

namespace Cert.Stage

open Cert.KernelIdeal Cert.KernelIdeal.Gen Idealize.ShloMosaic Idealize.ShloMosaic.Pointwise Cert.Norm Cert.Reals

/-- One block of the last stage at channel `o` and column `l`. -/
theorem last (s ss g be : Vec Ideal S128x1 .f32) (u : Vec Ideal S1x128x2048 .f32) (o : Fin 128) (l : Fin 2048) :
    k2_pay1 s ss g be u (ix3 0 o l)
      = kernelForm (s (ix2 o 0)) (ss (ix2 o 0)) (g (ix2 o 0)) (be (ix2 o 0)) (u (ix3 0 o l)) := by
  pointwise [k2_pay1]
  simp only [ofBits_inv, ofBits_eps]
  rfl

/-- One block of the middle stage at channel `o` and column `l`: the product of the weights with the channels after
    the first normalisation, plus the bias. -/
theorem middle (s ss g be : Vec Ideal S128x1 .f32) (u : Vec Ideal S1x128x2048 .f32) (w : Vec Ideal S128x128 .f32)
    (b : Vec Ideal S128x1 .f32) (o : Fin 128) (l : Fin 2048) :
    k1_pay6 s ss g be u w b (ix2 o l)
      = (∑ k : Fin 128, w (ix2 o k) * kernelForm (s (ix2 k 0)) (ss (ix2 k 0)) (g (ix2 k 0)) (be (ix2 k 0)) (u (ix3 0 k l)))
        + b (ix2 o 0) := by
  pointwise [k1_pay6]
  simp only [ofBits_inv, ofBits_eps]
  rfl

/-- The block as it is stored. -/
theorem middle_stored (v : FVec Ideal S128x2048 .f32) (o : Fin 128) (l : Fin 2048) :
    k1_pay1 v (ix3 0 o l) = v (ix2 o l) := by
  pointwise [k1_pay1]

/-- The sums start at zero. -/
theorem middle_zero (o : Fin 128) : k1_pay2 (F := Ideal) (ix2 o 0) = 0 := by
  pointwise [k1_pay2]

/-- The sums of squares start at zero. -/
theorem middle_zero' (o : Fin 128) : k1_pay3 (F := Ideal) (ix2 o 0) = 0 := by
  pointwise [k1_pay3]

/-- A channel's sum over the block, added to what was there. -/
theorem middle_sum (v : FVec Ideal S128x2048 .f32) (a : Vec Ideal S128x1 .f32) (o : Fin 128) :
    k1_pay4 v a (ix2 o 0) = a (ix2 o 0) + ∑ l : Fin 2048, v (ix2 o l) := by
  pointwise [k1_pay4]

/-- A channel's sum of squares over the block, added to what was there. -/
theorem middle_squares (v : FVec Ideal S128x2048 .f32) (a : Vec Ideal S128x1 .f32) (o : Fin 128) :
    k1_pay5 v a (ix2 o 0) = a (ix2 o 0) + ∑ l : Fin 2048, v (ix2 o l) * v (ix2 o l) := by
  pointwise [k1_pay5]

/-- Every channel's sum over batches and columns. -/
def sums (v : S4x128x8192.Idx → EReal) : S128x1.Idx → EReal := fun i =>
  ∑ a : Fin 4, ∑ l : Fin 8192, v (ix3 a (i 0) l)

/-- Every channel's sum of squares over batches and columns. -/
def squares (v : S4x128x8192.Idx → EReal) : S128x1.Idx → EReal := fun i =>
  ∑ a : Fin 4, ∑ l : Fin 8192, v (ix3 a (i 0) l) * v (ix3 a (i 0) l)

end Cert.Stage

end
-- ==== Proof.First.lean ====
/- What the first stage leaves in its arrays: the first dense layer over each query's own and interpolated channels, and
   every channel's sum and sum of squares. -/
module

public import proofs.«01_k».proof.Proof.Gen.KernelIdeal.Frame.Region0
public import proofs.«01_k».proof.Proof.Front
public import proofs.«01_k».proof.Proof.Stage
public import Idealize.ShloMosaic.Lib.Pipeline.ValueKit

@[expose] public section

set_option maxRecDepth 16384

noncomputable section

namespace Cert.First

open Cert.KernelIdeal Cert.KernelIdeal.Gen Idealize.ShloMosaic Idealize.ShloMosaic.TcCoe Idealize.ShloMosaic.Pointwise
open Cert.Norm Cert.Reals Cert.Point
open Cert.Stage (sums squares)
open Idealize.SL.Sem

/-- The distance of query `l` of batch `a` to the point `m`: the query's rows `x`, the product of the padded points `y`
    with the padded queries `z`, and the points' squared lengths `n`. -/
def distance (x : S4x8x8192.Idx → EReal) (z : S4x128x8192.Idx → EReal) (y : S4x2048x128.Idx → EReal)
    (n : S4x2048x1.Idx → EReal) (a : Fin 4) (l : Fin 8192) (m : Fin 2048) : EReal :=
  ((-2 : ℝ) : EReal) * (∑ k : Fin 128, y (ix3 a m k) * z (ix3 a k l))
    + (x (ix3 a 0 l) * x (ix3 a 0 l) + x (ix3 a 1 l) * x (ix3 a 1 l) + x (ix3 a 2 l) * x (ix3 a 2 l)) + n (ix3 a m 0)

/-- The first dense layer `w`, `b` over the channels of every query: its own `h`, then the interpolated ones `p + q`. -/
def dense (x : S4x8x8192.Idx → EReal) (z : S4x128x8192.Idx → EReal) (y : S4x2048x128.Idx → EReal)
    (n : S4x2048x1.Idx → EReal) (h : S4x64x8192.Idx → EReal) (p q : S4x128x2048.Idx → EReal) (w : S128x256.Idx → EReal)
    (b : S128x1.Idx → EReal) : S4x128x8192.Idx → EReal := fun i =>
  (∑ k : Fin 256, w (ix2 (i 1) k) * Front.channels (fun k => h (ix3 (i 0) k (i 2)))
      (fun f => kernelInterp (distance x z y n (i 0) (i 2)) (fun m => p (ix3 (i 0) f m)) (fun m => q (ix3 (i 0) f m)))
      (fun _ => 0) k)
    + b (ix2 (i 1) 0)

/-! Where the blocks lie: batch `t / 8`, columns `1024 (t % 8)` on; a batch's points whole; the weights whole. -/

/-- The queries' coordinates are read by batch and tile of columns. -/
theorem idx0 : ∀ t : Fin cfg0.N, win0_0.index t = ![t.val / 8, 0, t.val % 8] := (by decide +kernel : ∀ t : Fin grid0.N, _)
/-- The queries' coordinates for the product are read by batch and tile of columns. -/
theorem idx1 : ∀ t : Fin cfg0.N, win0_1.index t = ![t.val / 8, 0, t.val % 8] := (by decide +kernel : ∀ t : Fin grid0.N, _)
/-- The points' coordinates are read by batch. -/
theorem idx2 : ∀ t : Fin cfg0.N, win0_2.index t = ![t.val / 8, 0, 0] := (by decide +kernel : ∀ t : Fin grid0.N, _)
/-- The points' squared lengths are read by batch. -/
theorem idx3 : ∀ t : Fin cfg0.N, win0_3.index t = ![t.val / 8, 0, 0] := (by decide +kernel : ∀ t : Fin grid0.N, _)
/-- The queries' own features are read by batch and tile of columns. -/
theorem idx4 : ∀ t : Fin cfg0.N, win0_4.index t = ![t.val / 8, 0, t.val % 8] := (by decide +kernel : ∀ t : Fin grid0.N, _)
/-- The points' features, coarse part, are read by batch. -/
theorem idx5 : ∀ t : Fin cfg0.N, win0_5.index t = ![t.val / 8, 0, 0] := (by decide +kernel : ∀ t : Fin grid0.N, _)
/-- The points' features, remainder, are read by batch. -/
theorem idx6 : ∀ t : Fin cfg0.N, win0_6.index t = ![t.val / 8, 0, 0] := (by decide +kernel : ∀ t : Fin grid0.N, _)
/-- The weights are one block. -/
theorem idx7 : ∀ t : Fin cfg0.N, win0_7.index t = ![0, 0] := (by decide +kernel : ∀ t : Fin grid0.N, _)
/-- The bias is one block. -/
theorem idx8 : ∀ t : Fin cfg0.N, win0_8.index t = ![0, 0] := (by decide +kernel : ∀ t : Fin grid0.N, _)
/-- The layer is written by batch and tile of columns. -/
theorem idx9 : ∀ t : Fin cfg0.N, win0_9.index t = ![t.val / 8, 0, t.val % 8] := (by decide +kernel : ∀ t : Fin grid0.N, _)
/-- The sums are one block. -/
theorem idx10 : ∀ t : Fin cfg0.N, win0_10.index t = ![0, 0] := (by decide +kernel : ∀ t : Fin grid0.N, _)
/-- The sums of squares are one block. -/
theorem idx11 : ∀ t : Fin cfg0.N, win0_11.index t = ![0, 0] := (by decide +kernel : ∀ t : Fin grid0.N, _)

variable (V : (c : Dev nD) → (b : Ref sig .tc) → Buf (Elt Ideal) ((c : Thread nD τ).loc b))

/-- The dense layer over the arrays the stage was entered with. -/
abbrev entered (c : Dev nD) : S4x128x8192.Idx → EReal :=
  dense (V c main_v0) (V c main_v3) (V c main_v5) (V c main_v8) (V c main_arg2) (V c main_v9) (V c main_v12) (V c main_v13)
    (V c main_v14)

/-- The block's distances are the arrays' ones at the block's batch and columns. -/
theorem block_distance (c : Dev nD) (t : Fin cfg0.N) (m : Fin 2048) (l : Fin 1024) (ha : t.val / 8 < 4)
    (hl : t.val % 8 * 1024 + l.val < 8192) :
    k0_pay7 (iblk0 V c 0 t) (iblk0 V c 2 t) (iblk0 V c 1 t) (iblk0 V c 3 t) (ix2 m l)
      = distance (V c main_v0) (V c main_v3) (V c main_v5) (V c main_v8) ⟨t.val / 8, ha⟩ ⟨t.val % 8 * 1024 + l.val, hl⟩ m := by
  rw [Front.distance]
  unfold distance
  blk_point [iblk0, idx0 t, idx1 t, idx2 t, idx3 t]

/-- The block's interpolated channels are the arrays' ones. -/
theorem block_features (c : Dev nD) (t : Fin cfg0.N) (f : Fin 128) (l : Fin 1024) (ha : t.val / 8 < 4)
    (hl : t.val % 8 * 1024 + l.val < 8192) :
    k0_pay15 (k0_pay8 (iblk0 V c 0 t) (iblk0 V c 2 t) (iblk0 V c 1 t) (iblk0 V c 3 t))
        (k0_pay9 (iblk0 V c 0 t) (iblk0 V c 2 t) (iblk0 V c 1 t) (iblk0 V c 3 t))
        (k0_pay11 (iblk0 V c 0 t) (iblk0 V c 2 t) (iblk0 V c 1 t) (iblk0 V c 3 t))
        (k0_pay12 (iblk0 V c 0 t) (iblk0 V c 2 t) (iblk0 V c 1 t) (iblk0 V c 3 t))
        (k0_pay13 (iblk0 V c 0 t) (iblk0 V c 2 t) (iblk0 V c 1 t) (iblk0 V c 3 t))
        (k0_pay14 (iblk0 V c 0 t) (iblk0 V c 2 t) (iblk0 V c 1 t) (iblk0 V c 3 t)) (iblk0 V c 5 t) (iblk0 V c 6 t) (ix2 f l)
      = kernelInterp (distance (V c main_v0) (V c main_v3) (V c main_v5) (V c main_v8) ⟨t.val / 8, ha⟩
            ⟨t.val % 8 * 1024 + l.val, hl⟩)
          (fun m => V c main_v9 (ix3 ⟨t.val / 8, ha⟩ f m)) (fun m => V c main_v12 (ix3 ⟨t.val / 8, ha⟩ f m)) := by
  rw [Front.features]
  refine congr (congr (congrArg kernelInterp (funext fun m => block_distance V c t m l ha hl)) (funext fun m => ?_))
    (funext fun m => ?_)
  · blk_point [iblk0, idx5 t]
  · blk_point [iblk0, idx6 t]

/-- One block of the stage: the dense layer at the block's batch and columns. -/
theorem block (c : Dev nD) (t : Fin cfg0.N) (o : Fin 128) (l : Fin 1024) (ha : t.val / 8 < 4)
    (hl : t.val % 8 * 1024 + l.val < 8192) :
    k0_pay1
        (k0_pay15 (k0_pay8 (iblk0 V c 0 t) (iblk0 V c 2 t) (iblk0 V c 1 t) (iblk0 V c 3 t))
          (k0_pay9 (iblk0 V c 0 t) (iblk0 V c 2 t) (iblk0 V c 1 t) (iblk0 V c 3 t))
          (k0_pay11 (iblk0 V c 0 t) (iblk0 V c 2 t) (iblk0 V c 1 t) (iblk0 V c 3 t))
          (k0_pay12 (iblk0 V c 0 t) (iblk0 V c 2 t) (iblk0 V c 1 t) (iblk0 V c 3 t))
          (k0_pay13 (iblk0 V c 0 t) (iblk0 V c 2 t) (iblk0 V c 1 t) (iblk0 V c 3 t))
          (k0_pay14 (iblk0 V c 0 t) (iblk0 V c 2 t) (iblk0 V c 1 t) (iblk0 V c 3 t)) (iblk0 V c 5 t) (iblk0 V c 6 t))
        (k0_pay16 (iblk0 V c 4 t)) k0_pay17 (iblk0 V c 7 t) (iblk0 V c 8 t) (ix2 o l)
      = entered V c (ix3 ⟨t.val / 8, ha⟩ o ⟨t.val % 8 * 1024 + l.val, hl⟩) := by
  rw [Front.product]
  simp only [block_features V c t _ l ha hl, Front.points1, Front.padding]
  unfold entered dense
  refine congrArg₂ (· + ·) (Finset.sum_congr rfl fun k _ => congrArg₂ (· * ·) ?_ ?_) ?_
  · blk_point [iblk0, idx7 t]
  · refine congrArg (fun a => Front.channels a _ _ k) (funext fun k => ?_)
    blk_point [iblk0, idx4 t]
  · blk_point [iblk0, idx8 t]

/-- The stage's first array: the dense layer. -/
theorem array (c : Dev nD) : (dat0 V c).arrAt 9 cfg0.N = entered V c := by
  refine (dat0 V c).arrAt_eq_of_covers 9 _ (by decide +kernel) fun t hf y => ?_
  have ha : t.val / 8 < 4 := by
    have := lt_of_lt_of_eq t.isLt (show cfg0.N = 32 from N_0)
    omega
  blk_simp
  obtain ⟨a, o, l, rfl⟩ : ∃ (a : Fin 1) (o : Fin 128) (l : Fin 1024), y = ix3 a o l := ⟨y 0, y 1, y 2, eq_ix3 y⟩
  obtain rfl : a = 0 := Subsingleton.elim _ _
  have hl : t.val % 8 * 1024 + l.val < 8192 := by omega
  have key : (outsAt0 V c t.val t.isLt).1 (ix3 0 o l)
      = entered V c (ix3 ⟨t.val / 8, ha⟩ o ⟨t.val % 8 * 1024 + l.val, hl⟩) := by
    by_cases h : t.val % 32 = 0
    · rw [outsAt0_A V c t h]
      frame_out
      rw [Front.stored]
      exact block V c t o l ha hl
    · rw [outsAt0_B V c t h]
      frame_out
      rw [Front.stored]
      exact block V c t o l ha hl
  rw [after0_9]
  refine key.trans ?_
  blk_point [idx9 t]

/-- After the last point the second array's block holds every channel's sum. -/
theorem sums_last (c : Dev nD) (t : Fin cfg0.N) (ht : t.val + 1 = cfg0.N) (o : Fin 128) :
    (outsAt0 V c t.val t.isLt).2.1 (ix2 o 0) = sums (entered V c) (ix2 o 0) := by
  refine (Pipeline.eq_sum_fin_of_reset_step_apply_last (fun n h (o : Fin 128) => (outsAt0 V c n h).2.1 (ix2 o 0)) 32
    (fun _ => 0) _
    (fun t h j => by rw [outsAt0_A V c t h]; frame_out; rw [Front.sum, Front.zero])
    (fun t h j => by rw [outsAt0_B V c t h]; frame_out; rw [Front.sum]) (le_of_eq N_0) t ht o).trans ?_
  rw [zero_add]
  unfold sums
  refine Fin.sum_points_lanes_congr 8 fun t k ha hl => ?_
  exact block V c t o k ha hl

/-- After the last point the third array's block holds every channel's sum of squares. -/
theorem squares_last (c : Dev nD) (t : Fin cfg0.N) (ht : t.val + 1 = cfg0.N) (o : Fin 128) :
    (outsAt0 V c t.val t.isLt).2.2 (ix2 o 0) = squares (entered V c) (ix2 o 0) := by
  refine (Pipeline.eq_sum_fin_of_reset_step_apply_last (fun n h (o : Fin 128) => (outsAt0 V c n h).2.2 (ix2 o 0)) 32
    (fun _ => 0) _
    (fun t h j => by rw [outsAt0_A V c t h]; frame_out; rw [Front.squares, Front.zero'])
    (fun t h j => by rw [outsAt0_B V c t h]; frame_out; rw [Front.squares]) (le_of_eq N_0) t ht o).trans ?_
  rw [zero_add]
  unfold squares
  refine Fin.sum_points_lanes_congr 8 fun t k ha hl => ?_
  exact congrArg₂ (· * ·) (block V c t o k ha hl) (block V c t o k ha hl)

/-- The stage's second array: every channel's sum. -/
theorem array_sums (c : Dev nD) : (dat0 V c).arrAt 10 cfg0.N = sums (entered V c) := by
  refine (dat0 V c).arrAt_eq_of_covers 10 _ (by decide +kernel) fun t hf y => ?_
  have ht : t.val + 1 = cfg0.N := by
    have := (flush0_10 t).mp hf
    have := t.isLt
    have : cfg0.N = 32 := N_0
    omega
  blk_simp
  obtain ⟨o, a, rfl⟩ : ∃ (o : Fin 128) (a : Fin 1), y = ix2 o a := ⟨y 0, y 1, eq_ix2 y⟩
  obtain rfl : a = 0 := Subsingleton.elim _ _
  rw [after0_10]
  refine (sums_last V c t ht o).trans ?_
  unfold sums
  blk_point [idx10 t]

/-- The stage's third array: every channel's sum of squares. -/
theorem array_squares (c : Dev nD) : (dat0 V c).arrAt 11 cfg0.N = squares (entered V c) := by
  refine (dat0 V c).arrAt_eq_of_covers 11 _ (by decide +kernel) fun t hf y => ?_
  have ht : t.val + 1 = cfg0.N := by
    have := (flush0_11 t).mp hf
    have := t.isLt
    have : cfg0.N = 32 := N_0
    omega
  blk_simp
  obtain ⟨o, a, rfl⟩ : ∃ (o : Fin 128) (a : Fin 1), y = ix2 o a := ⟨y 0, y 1, eq_ix2 y⟩
  obtain rfl : a = 0 := Subsingleton.elim _ _
  rw [after0_11]
  refine (squares_last V c t ht o).trans ?_
  unfold squares
  blk_point [idx11 t]

end Cert.First

end
-- ==== Proof.Middle.lean ====
/- What the middle stage leaves in its arrays: the second dense layer over the normalised first one, and every channel's
   sum and sum of squares. -/
module

public import proofs.«01_k».proof.Proof.Gen.KernelIdeal.Frame.Region1
public import proofs.«01_k».proof.Proof.Stage
public import Idealize.ShloMosaic.Lib.Pipeline.ValueKit

@[expose] public section

set_option maxRecDepth 16384

noncomputable section

namespace Cert.Middle

open Cert.KernelIdeal Cert.KernelIdeal.Gen Idealize.ShloMosaic Idealize.ShloMosaic.TcCoe Idealize.ShloMosaic.Pointwise
open Cert.Norm Cert.Reals
open Cert.Stage (sums squares)
open Idealize.SL.Sem

/-- The dense layer `w`, `b` over the channels of `u`, each first scaled and shifted by its sums, gain and offset. -/
def dense (u : S4x128x8192.Idx → EReal) (s ss g be : S128x1.Idx → EReal) (w : S128x128.Idx → EReal)
    (b : S128x1.Idx → EReal) : S4x128x8192.Idx → EReal := fun i =>
  (∑ k : Fin 128, w (ix2 (i 1) k)
      * kernelForm (s (ix2 k 0)) (ss (ix2 k 0)) (g (ix2 k 0)) (be (ix2 k 0)) (u (ix3 (i 0) k (i 2))))
    + b (ix2 (i 1) 0)

/-! Where the blocks lie: batch `t / 4`, columns `2048 (t % 4)` on; the channels' vectors and the weights whole. -/

/-- The first layer is read by batch and tile of columns. -/
theorem idx0 : ∀ t : Fin cfg1.N, win1_0.index t = ![t.val / 4, 0, t.val % 4] := (by decide +kernel : ∀ t : Fin grid1.N, _)
/-- The sums are one block. -/
theorem idx1 : ∀ t : Fin cfg1.N, win1_1.index t = ![0, 0] := (by decide +kernel : ∀ t : Fin grid1.N, _)
/-- The sums of squares are one block. -/
theorem idx2 : ∀ t : Fin cfg1.N, win1_2.index t = ![0, 0] := (by decide +kernel : ∀ t : Fin grid1.N, _)
/-- The gain is one block. -/
theorem idx3 : ∀ t : Fin cfg1.N, win1_3.index t = ![0, 0] := (by decide +kernel : ∀ t : Fin grid1.N, _)
/-- The offset is one block. -/
theorem idx4 : ∀ t : Fin cfg1.N, win1_4.index t = ![0, 0] := (by decide +kernel : ∀ t : Fin grid1.N, _)
/-- The weights are one block. -/
theorem idx5 : ∀ t : Fin cfg1.N, win1_5.index t = ![0, 0] := (by decide +kernel : ∀ t : Fin grid1.N, _)
/-- The bias is one block. -/
theorem idx6 : ∀ t : Fin cfg1.N, win1_6.index t = ![0, 0] := (by decide +kernel : ∀ t : Fin grid1.N, _)
/-- The second layer is written by batch and tile of columns. -/
theorem idx7 : ∀ t : Fin cfg1.N, win1_7.index t = ![t.val / 4, 0, t.val % 4] := (by decide +kernel : ∀ t : Fin grid1.N, _)
/-- The new sums are one block. -/
theorem idx8 : ∀ t : Fin cfg1.N, win1_8.index t = ![0, 0] := (by decide +kernel : ∀ t : Fin grid1.N, _)
/-- The new sums of squares are one block. -/
theorem idx9 : ∀ t : Fin cfg1.N, win1_9.index t = ![0, 0] := (by decide +kernel : ∀ t : Fin grid1.N, _)

variable (V : (c : Dev nD) → (b : Ref sig .tc) → Buf (Elt Ideal) ((c : Thread nD τ).loc b))

/-- The dense layer over the arrays the stage was entered with. -/
abbrev entered (c : Dev nD) : S4x128x8192.Idx → EReal :=
  dense (V c main_v15_0) (V c main_v15_1) (V c main_v15_2) (V c main_v16) (V c main_v17) (V c main_arg8) (V c main_v18)

/-- One block of the stage: the dense layer at the block's batch and columns. -/
theorem block (c : Dev nD) (t : Fin cfg1.N) (o : Fin 128) (l : Fin 2048) (ha : t.val / 4 < 4) (hl : t.val % 4 * 2048 + l.val < 8192) :
    k1_pay6 (iblk1 V c 1 t) (iblk1 V c 2 t) (iblk1 V c 3 t) (iblk1 V c 4 t) (iblk1 V c 0 t) (iblk1 V c 5 t) (iblk1 V c 6 t) (ix2 o l)
      = entered V c (ix3 ⟨t.val / 4, ha⟩ o ⟨t.val % 4 * 2048 + l.val, hl⟩) := by
  rw [Stage.middle]
  unfold entered dense
  blk_point [iblk1, idx0 t, idx1 t, idx2 t, idx3 t, idx4 t, idx5 t, idx6 t]

/-- The stage's first array: the dense layer. -/
theorem array (c : Dev nD) : (dat1 V c).arrAt 7 cfg1.N = entered V c := by
  refine (dat1 V c).arrAt_eq_of_covers 7 _ (by decide +kernel) fun t hf y => ?_
  blk_simp
  obtain ⟨a, o, l, rfl⟩ : ∃ (a : Fin 1) (o : Fin 128) (l : Fin 2048), y = ix3 a o l := ⟨y 0, y 1, y 2, eq_ix3 y⟩
  obtain rfl : a = 0 := Subsingleton.elim _ _
  rw [after1_7]
  by_cases h : t.val % 16 = 0
  · rw [outsAt1_A V c t h]
    frame_out
    rw [Stage.middle_stored, Stage.middle]
    unfold entered dense
    blk_point [iblk1, idx0 t, idx1 t, idx2 t, idx3 t, idx4 t, idx5 t, idx6 t, idx7 t]
  · rw [outsAt1_B V c t h]
    frame_out
    rw [Stage.middle_stored, Stage.middle]
    unfold entered dense
    blk_point [iblk1, idx0 t, idx1 t, idx2 t, idx3 t, idx4 t, idx5 t, idx6 t, idx7 t]

/-- After the last point the second array's block holds every channel's sum. -/
theorem sums_last (c : Dev nD) (t : Fin cfg1.N) (ht : t.val + 1 = cfg1.N) (o : Fin 128) :
    (outsAt1 V c t.val t.isLt).2.1 (ix2 o 0) = sums (entered V c) (ix2 o 0) := by
  refine (Pipeline.eq_sum_fin_of_reset_step_apply_last (fun n h (o : Fin 128) => (outsAt1 V c n h).2.1 (ix2 o 0)) 16
    (fun _ => 0) _
    (fun t h j => by rw [outsAt1_A V c t h]; frame_out; rw [Stage.middle_sum, Stage.middle_zero])
    (fun t h j => by rw [outsAt1_B V c t h]; frame_out; rw [Stage.middle_sum]) (le_of_eq N_1) t ht o).trans ?_
  rw [zero_add]
  unfold sums
  refine Fin.sum_points_lanes_congr 4 fun t k ha hl => ?_
  exact block V c t o k ha hl

/-- After the last point the third array's block holds every channel's sum of squares. -/
theorem squares_last (c : Dev nD) (t : Fin cfg1.N) (ht : t.val + 1 = cfg1.N) (o : Fin 128) :
    (outsAt1 V c t.val t.isLt).2.2 (ix2 o 0) = squares (entered V c) (ix2 o 0) := by
  refine (Pipeline.eq_sum_fin_of_reset_step_apply_last (fun n h (o : Fin 128) => (outsAt1 V c n h).2.2 (ix2 o 0)) 16
    (fun _ => 0) _
    (fun t h j => by rw [outsAt1_A V c t h]; frame_out; rw [Stage.middle_squares, Stage.middle_zero'])
    (fun t h j => by rw [outsAt1_B V c t h]; frame_out; rw [Stage.middle_squares]) (le_of_eq N_1) t ht o).trans ?_
  rw [zero_add]
  unfold squares
  refine Fin.sum_points_lanes_congr 4 fun t k ha hl => ?_
  exact congrArg₂ (· * ·) (block V c t o k ha hl) (block V c t o k ha hl)

/-- The stage's second array: every channel's sum. -/
theorem array_sums (c : Dev nD) : (dat1 V c).arrAt 8 cfg1.N = sums (entered V c) := by
  refine (dat1 V c).arrAt_eq_of_covers 8 _ (by decide +kernel) fun t hf y => ?_
  have ht : t.val + 1 = cfg1.N := by
    have := (flush1_8 t).mp hf
    have := t.isLt
    have : cfg1.N = 16 := N_1
    omega
  blk_simp
  obtain ⟨o, a, rfl⟩ : ∃ (o : Fin 128) (a : Fin 1), y = ix2 o a := ⟨y 0, y 1, eq_ix2 y⟩
  obtain rfl : a = 0 := Subsingleton.elim _ _
  rw [after1_8]
  refine (sums_last V c t ht o).trans ?_
  unfold sums
  blk_point [idx8 t]

/-- The stage's third array: every channel's sum of squares. -/
theorem array_squares (c : Dev nD) : (dat1 V c).arrAt 9 cfg1.N = squares (entered V c) := by
  refine (dat1 V c).arrAt_eq_of_covers 9 _ (by decide +kernel) fun t hf y => ?_
  have ht : t.val + 1 = cfg1.N := by
    have := (flush1_9 t).mp hf
    have := t.isLt
    have : cfg1.N = 16 := N_1
    omega
  blk_simp
  obtain ⟨o, a, rfl⟩ : ∃ (o : Fin 128) (a : Fin 1), y = ix2 o a := ⟨y 0, y 1, eq_ix2 y⟩
  obtain rfl : a = 0 := Subsingleton.elim _ _
  rw [after1_9]
  refine (squares_last V c t ht o).trans ?_
  unfold squares
  blk_point [idx9 t]

end Cert.Middle

end
-- ==== Proof.Last.lean ====
/- What the last stage leaves in the result: every channel of the second dense layer, normalised. -/
module

public import proofs.«01_k».proof.Proof.Gen.KernelIdeal.Frame.Region2
public import proofs.«01_k».proof.Proof.Stage
public import Idealize.ShloMosaic.Lib.Pipeline.ValueKit

@[expose] public section

set_option maxRecDepth 16384

noncomputable section

namespace Cert.Last

open Cert.KernelIdeal Cert.KernelIdeal.Gen Idealize.ShloMosaic Idealize.ShloMosaic.TcCoe Idealize.ShloMosaic.Pointwise
open Cert.Norm Cert.Reals
open Idealize.SL.Sem

/-- An array of channels scaled and shifted by its channels' sums, sums of squares, gains and offsets. -/
def scaled (u : S4x128x8192.Idx → EReal) (s ss g be : S128x1.Idx → EReal) : S4x128x8192.Idx → EReal := fun i =>
  kernelForm (s (ix2 (i 1) 0)) (ss (ix2 (i 1) 0)) (g (ix2 (i 1) 0)) (be (ix2 (i 1) 0)) (u i)

/-! Where the blocks lie: batch `t / 4`, columns `2048 (t % 4)` on; the channels' vectors whole. -/

/-- The second layer is read by batch and tile of columns. -/
theorem idx0 : ∀ t : Fin cfg2.N, win2_0.index t = ![t.val / 4, 0, t.val % 4] := (by decide +kernel : ∀ t : Fin grid2.N, _)
/-- The sums are one block. -/
theorem idx1 : ∀ t : Fin cfg2.N, win2_1.index t = ![0, 0] := (by decide +kernel : ∀ t : Fin grid2.N, _)
/-- The sums of squares are one block. -/
theorem idx2 : ∀ t : Fin cfg2.N, win2_2.index t = ![0, 0] := (by decide +kernel : ∀ t : Fin grid2.N, _)
/-- The gain is one block. -/
theorem idx3 : ∀ t : Fin cfg2.N, win2_3.index t = ![0, 0] := (by decide +kernel : ∀ t : Fin grid2.N, _)
/-- The offset is one block. -/
theorem idx4 : ∀ t : Fin cfg2.N, win2_4.index t = ![0, 0] := (by decide +kernel : ∀ t : Fin grid2.N, _)
/-- The result is written by batch and tile of columns. -/
theorem idx5 : ∀ t : Fin cfg2.N, win2_5.index t = ![t.val / 4, 0, t.val % 4] := (by decide +kernel : ∀ t : Fin grid2.N, _)

variable (V : (c : Dev nD) → (b : Ref sig .tc) → Buf (Elt Ideal) ((c : Thread nD τ).loc b))

/-- The result array, after the last stage has run over the arrays it was entered with. -/
theorem array (c : Dev nD) :
    (dat2 V c).arrAt 5 cfg2.N
      = scaled (V c main_v19_0) (V c main_v19_1) (V c main_v19_2) (V c main_v20) (V c main_v21) := by
  refine (dat2 V c).arrAt_eq_of_covers 5 _ (by decide +kernel) fun t hf y => ?_
  blk_simp
  rw [after2_5]
  frame_out
  obtain ⟨a, o, l, rfl⟩ : ∃ (a : Fin 1) (o : Fin 128) (l : Fin 2048), y = ix3 a o l := ⟨y 0, y 1, y 2, eq_ix3 y⟩
  obtain rfl : a = 0 := Subsingleton.elim _ _
  rw [Stage.last]
  unfold scaled
  blk_point [iblk2, idx0 t, idx1 t, idx2 t, idx3 t, idx4 t, idx5 t]

end Cert.Last

end
-- ==== Proof.KernelValue.lean ====
/- The kernel's result over the reals. -/
module

public import proofs.«01_k».proof.Proof.Spec
public import proofs.«01_k».proof.Proof.Hosts
public import proofs.«01_k».proof.Proof.First
public import proofs.«01_k».proof.Proof.Middle
public import proofs.«01_k».proof.Proof.Last

@[expose] public section

set_option maxRecDepth 16384

noncomputable section

namespace Cert.KernelValue

open Cert.KernelIdeal Cert.KernelIdeal.Gen Idealize.ShloMosaic Idealize.ShloMosaic.TcCoe
open Cert.Norm Cert.Reals Cert.Point Cert.Spec
open Idealize.SL.Sem

variable (m : (ℓ : Loc nD τ sig) → Buf (Elt Ideal) ℓ) (ρ : Dev nD → PrngReg) (c : Dev nD)
variable (I : Inputs) (near : Fin 4 → Fin 8192 → Fin 3 → Fin 2048)

/-- The launch's arguments hold the numbers. -/
abbrev Launched : Prop :=
  Reads I (fun a r l => Hosts.xyz1 m c (ix3 a r l)) (fun a r n => Hosts.xyz2 m c (ix3 a r n))
    (fun a k l => Hosts.points1 m c (ix3 a k l)) (fun a f n => Hosts.points2 m c (ix3 a f n))
    (fun o k => Hosts.w0 m c (ix2 o k)) (fun o => Hosts.b0 m c (ix1 o)) (fun o => Hosts.g0 m c (ix1 o))
    (fun o => Hosts.be0 m c (ix1 o)) (fun o k => Hosts.w1 m c (ix2 o k)) (fun o => Hosts.b1 m c (ix1 o))
    (fun o => Hosts.g1 m c (ix1 o)) (fun o => Hosts.be1 m c (ix1 o))

variable {m c I near}

/-- A sum of squares of numbers. -/
theorem squares {f : Fin 3 → EReal} {x : Fin 3 → ℝ} (h : ∀ r, f r = (x r : EReal)) :
    ∑ r, f r * f r = ∑ r, (x r : EReal) * (x r : EReal) := Finset.sum_congr rfl fun r _ => by rw [h]

/-! The first stage over arrays that hold the numbers. -/

section Arrays

variable {x : S4x8x8192.Idx → EReal} {z : S4x128x8192.Idx → EReal} {y : S4x2048x128.Idx → EReal} {n : S4x2048x1.Idx → EReal}
  {h : S4x64x8192.Idx → EReal} {p q : S4x128x2048.Idx → EReal} {w : S128x256.Idx → EReal} {b : S128x1.Idx → EReal}
  (hx : ∀ a r l, x (ix3 a r l) = if h : r.val < 3 then (I.x1 a ⟨r.val, h⟩ l : EReal) else 0)
  (hz : ∀ a r l, z (ix3 a r l) = if h : r.val < 3 then (I.x1 a ⟨r.val, h⟩ l : EReal) else 0)
  (hy : ∀ a m r, y (ix3 a m r) = if h : r.val < 3 then (I.x2 a ⟨r.val, h⟩ m : EReal) else 0)
  (hn : ∀ a m, n (ix3 a m 0) = ∑ r, (I.x2 a r m : EReal) * (I.x2 a r m : EReal))
  (hh : ∀ a k l, h (ix3 a k l) = (I.h1 a k l : EReal))
  (hp : ∀ a f m, p (ix3 a f m) = (I.h2 a f m : EReal))
  (hq : ∀ a f m, q (ix3 a f m) = (0 : EReal))
  (hw : ∀ o k, w (ix2 o k) = if h : k.val < 192 then (I.w0 o ⟨k.val, h⟩ : EReal) else 0)
  (hb : ∀ o, b (ix2 o 0) = (I.b0 o : EReal))

include hx hz hy hn in
/-- The kernel's squared distances. -/
theorem distance (a : Fin 4) (l : Fin 8192) (m : Fin 2048) : First.distance x z y n a l m = (dists I a l m : EReal) := by
  unfold First.distance
  rw [hx, hx, hx, hn]
  refine kernel_dist (fun r => I.x1 a r l) (fun r => I.x2 a r m) (fun k => y (ix3 a m k) * z (ix3 a k l)) fun k => ?_
  rw [hy, hz]
  by_cases h : k.val < 3
  · simp only [dif_pos h]
  · simp only [dif_neg h, mul_zero]

include hx hz hy hn hp hq in
/-- The kernel's interpolated channels. -/
theorem interpolation (hI : Nearest3 I near) (a : Fin 4) (l : Fin 8192) (f : Fin 128) :
    kernelInterp (First.distance x z y n a l) (fun m => p (ix3 a f m)) (fun m => q (ix3 a f m))
      = (interpolated I near a l f : EReal) := by
  rw [show First.distance x z y n a l = fun m => (dists I a l m : EReal) from funext fun m => distance hx hz hy hn a l m,
    show (fun m => p (ix3 a f m)) = fun m => (I.h2 a f m : EReal) from funext fun m => hp a f m]
  exact kernelInterp_eq (dists I a l) (I.h2 a f) _ (fun n => dist_nonneg _ _) (fun m => hq a f m) _ _ _ (hI a l)

include hx hz hy hn hh hp hq hw hb in
/-- The kernel's first dense layer. -/
theorem dense (hI : Nearest3 I near) (a : Fin 4) (o : Fin 128) (l : Fin 8192) :
    First.dense x z y n h p q w b (ix3 a o l) = (layer0 I near o (a, l) : EReal) := by
  change (∑ k : Fin 256, w (ix2 o k) * Front.channels (fun k => h (ix3 a k l))
      (fun f => kernelInterp (First.distance x z y n a l) (fun m => p (ix3 a f m)) (fun m => q (ix3 a f m))) (fun _ => 0) k)
    + b (ix2 o 0) = _
  have key : ∀ k : Fin 256, w (ix2 o k) * Front.channels (fun k => h (ix3 a k l))
      (fun f => kernelInterp (First.distance x z y n a l) (fun m => p (ix3 a f m)) (fun m => q (ix3 a f m))) (fun _ => 0) k
      = if h : k.val < 192 then ((I.w0 o ⟨k.val, h⟩ * channel I near a l ⟨k.val, h⟩ : ℝ) : EReal) else 0 := by
    intro k
    rw [hw]
    by_cases h192 : k.val < 192
    · rw [dif_pos h192, dif_pos h192, EReal.coe_mul]
      refine congrArg (_ * ·) ?_
      unfold Front.channels channel
      by_cases h64 : k.val < 64
      · rw [dif_pos h64, dif_pos h64]
        exact hh a _ l
      · rw [dif_neg h64, dif_neg h64, dif_pos (by omega)]
        exact interpolation hx hz hy hn hp hq hI a l _
    · rw [dif_neg h192, dif_neg h192, zero_mul]
  rw [Finset.sum_congr rfl fun k _ => key k, hb]
  unfold layer0
  rw [EReal.coe_add, coe_sum]
  exact congrArg (· + _) (sum_pad 192 64 fun k => ((I.w0 o k * channel I near a l k : ℝ) : EReal))

end Arrays

variable (hR : Launched m c I) (hn : Nearest3 I near)
include hR hn

/-- The kernel's first dense layer, as launched. -/
theorem first (a : Fin 4) (o : Fin 128) (l : Fin 8192) :
    First.entered (V9 m ρ) c (ix3 a o l) = (layer0 I near o (a, l) : EReal) := by
  refine dense (fun a r l => (Hosts.rows m ρ c a r l).trans ?_) (fun a r l => (Hosts.queries m ρ c a r l).trans ?_)
    (fun a n r => (Hosts.points m ρ c a n r).trans ?_) (fun a n => (Hosts.lengths m ρ c a n).trans ?_)
    (fun a k l => (congrFun (Hosts.own m ρ c) _).trans (hR.h1 a k l))
    (fun a f n => (Hosts.features m ρ c _).trans (hR.h2 a f n)) (fun a f n => (Hosts.remainder m ρ c _).trans ?_)
    (fun o k => (Hosts.weights m ρ c o k).trans ?_) (fun o => (Hosts.bias m ρ c o).trans (hR.b0 o)) hn a o l
  · by_cases h : r.val < 3
    · rw [dif_pos h, dif_pos h]; exact hR.x1 a _ l
    · rw [dif_neg h, dif_neg h]
  · by_cases h : r.val < 3
    · rw [dif_pos h, dif_pos h]; exact hR.x1 a _ l
    · rw [dif_neg h, dif_neg h]
  · by_cases h : r.val < 3
    · rw [dif_pos h, dif_pos h]; exact hR.x2 a _ n
    · rw [dif_neg h, dif_neg h]
  · exact squares fun r => hR.x2 a r n
  · rw [show Hosts.points2 m c (ix3 a f n) = (I.h2 a f n : EReal) from hR.h2 a f n, ← EReal.coe_sub, sub_self, EReal.coe_zero]
  · by_cases h : k.val < 192
    · rw [dif_pos h, dif_pos h]; exact hR.w0 o _
    · rw [dif_neg h, dif_neg h]

omit hR hn in
/-- The sums of an array of numbers. -/
theorem sums_of (v : S4x128x8192.Idx → EReal) (x : Fin 128 → Fin 4 × Fin 8192 → ℝ)
    (h : ∀ a o l, v (ix3 a o l) = (x o (a, l) : EReal)) (o : Fin 128) :
    Stage.sums v (ix2 o 0) = ∑ p, (x o p : EReal) := by
  rw [Fintype.sum_prod_type]
  exact Finset.sum_congr rfl fun a _ => Finset.sum_congr rfl fun l _ => h a o l

omit hR hn in
/-- The sums of squares of an array of numbers. -/
theorem squares_of (v : S4x128x8192.Idx → EReal) (x : Fin 128 → Fin 4 × Fin 8192 → ℝ)
    (h : ∀ a o l, v (ix3 a o l) = (x o (a, l) : EReal)) (o : Fin 128) :
    Stage.squares v (ix2 o 0) = ∑ p, (x o p : EReal) * (x o p : EReal) := by
  rw [Fintype.sum_prod_type]
  exact Finset.sum_congr rfl fun a _ => Finset.sum_congr rfl fun l _ => congrArg₂ (· * ·) (h a o l) (h a o l)

omit hR hn in
/-- The scale and shift of an array of numbers by its own sums is the normalised array. -/
theorem scaled_of (v : S4x128x8192.Idx → EReal) (x : Fin 128 → Fin 4 × Fin 8192 → ℝ)
    (h : ∀ a o l, v (ix3 a o l) = (x o (a, l) : EReal)) (g : ℝ) (be : EReal) (a : Fin 4) (o : Fin 128) (l : Fin 8192) :
    kernelForm (Stage.sums v (ix2 o 0)) (Stage.squares v (ix2 o 0)) g be (v (ix3 a o l)) = normed (x o) g be (a, l) := by
  rw [sums_of v x h, squares_of v x h, h]
  exact kernelForm_eq (x o) card g be (a, l)

/-! The arrays between the stages. -/

omit hR hn in
/-- The second kernel finds the first layer. -/
theorem v15_0 : V11 m ρ c main_v15_0 = First.entered (V9 m ρ) c :=
  (W11_of m ρ c main_v15_0 (by decide)).trans <| (W10_arr m ρ c 9).trans (First.array _ c)
omit hR hn in
/-- The second kernel finds the first layer's sums. -/
theorem v15_1 : V11 m ρ c main_v15_1 = Stage.sums (First.entered (V9 m ρ) c) :=
  (W11_of m ρ c main_v15_1 (by decide)).trans <| (W10_arr m ρ c 10).trans (First.array_sums _ c)
omit hR hn in
/-- The second kernel finds the first layer's sums of squares. -/
theorem v15_2 : V11 m ρ c main_v15_2 = Stage.squares (First.entered (V9 m ρ) c) :=
  (W11_of m ρ c main_v15_2 (by decide)).trans <| (W10_arr m ρ c 11).trans (First.array_squares _ c)
omit hR hn in
/-- The third kernel finds the second layer. -/
theorem v19_0 : V13 m ρ c main_v19_0 = Middle.entered (V11 m ρ) c :=
  (W13_of m ρ c main_v19_0 (by decide)).trans <| (W12_arr m ρ c 7).trans (Middle.array _ c)
omit hR hn in
/-- The third kernel finds the second layer's sums. -/
theorem v19_1 : V13 m ρ c main_v19_1 = Stage.sums (Middle.entered (V11 m ρ) c) :=
  (W13_of m ρ c main_v19_1 (by decide)).trans <| (W12_arr m ρ c 8).trans (Middle.array_sums _ c)
omit hR hn in
/-- The third kernel finds the second layer's sums of squares. -/
theorem v19_2 : V13 m ρ c main_v19_2 = Stage.squares (Middle.entered (V11 m ρ) c) :=
  (W13_of m ρ c main_v19_2 (by decide)).trans <| (W12_arr m ρ c 9).trans (Middle.array_squares _ c)

/-- The kernel's second dense layer. -/
theorem second (a : Fin 4) (o : Fin 128) (l : Fin 8192) :
    Middle.entered (V11 m ρ) c (ix3 a o l) = (layer1 I near o (a, l) : EReal) := by
  unfold Middle.entered Middle.dense layer1
  rw [EReal.coe_add, coe_sum]
  refine congrArg₂ (· + ·) (Finset.sum_congr rfl fun k _ => ?_) ((Hosts.bias1 m ρ c o).trans (hR.b1 o))
  rw [EReal.coe_mul]
  refine congrArg₂ (· * ·) ((congrFun (Hosts.weights1 m ρ c) _).trans (hR.w1 o k)) ?_
  rw [v15_0, v15_1, v15_2, show (V11 m ρ c main_v16 (ix2 k 0) : EReal) = _ from (Hosts.gain0 m ρ c k).trans (hR.g0 k),
    show (V11 m ρ c main_v17 (ix2 k 0) : EReal) = _ from (Hosts.offset0 m ρ c k).trans (hR.be0 k)]
  refine (scaled_of (First.entered (V9 m ρ) c) (layer0 I near) (first ρ hR hn) (I.g0 k) (I.be0 k) a k l).trans ?_
  exact normed_coe _ _ _ _

/-- The kernel's result. -/
theorem result (a : Fin 4) (o : Fin 128) (l : Fin 8192) :
    (W14 m ρ c (Proc.devRef .tc main_v22) : S4x128x8192.Idx → EReal) (ix3 a o l) = out I near o (a, l) := by
  rw [show (W14 m ρ c (Proc.devRef .tc main_v22) : S4x128x8192.Idx → EReal) = _ from (W14_arr m ρ c 5).trans (Last.array _ c)]
  unfold Last.scaled out
  rw [v19_0, v19_1, v19_2]
  show kernelForm _ _ (V13 m ρ c main_v20 (ix2 o 0)) (V13 m ρ c main_v21 (ix2 o 0)) _ = _
  rw [show (V13 m ρ c main_v20 (ix2 o 0) : EReal) = _ from (Hosts.gain1 m ρ c o).trans (hR.g1 o),
    show (V13 m ρ c main_v21 (ix2 o 0) : EReal) = _ from (Hosts.offset1 m ρ c o).trans (hR.be1 o)]
  exact scaled_of (Middle.entered (V11 m ρ) c) (layer1 I near) (second ρ hR hn) (I.g1 o) (I.be1 o) a o l

end Cert.KernelValue

end
-- ==== Proof.Sorted.lean ====
/- Sorting the positions of a row by its values, and reading an array at the positions a row of words names: what
   `argsort` and `take_along_axis` do, element by element. -/
module

public import proofs.«01_k».proof.Proof.Nearest
public import Idealize.ShloMosaic.Lib.SortFacts
public import Idealize.ShloMosaic.Lib.Pointwise

@[expose] public section

set_option maxRecDepth 16384

noncomputable section

namespace Cert.Sorted

open Idealize.ShloMosaic

/-! ### The order -/

/-- The positions of `x`, the smaller values first. -/
def order (x : Fin 2048 → EReal) : Fin 2048 → Fin 2048 := sortedFrom fun k k' => decide (x k < x k')

/-- No point comes twice in the order. -/
theorem order_injective (x : Fin 2048 → EReal) : Function.Injective (order x) := sortedFrom_injective _

/-- Every point comes in the order. -/
theorem order_surjective (x : Fin 2048 → EReal) : Function.Surjective (order x) := sortedFrom_surjective _

/-- An earlier position holds no larger value. -/
theorem order_le (x : Fin 2048 → EReal) {i j : Fin 2048} (hij : i < j) : x (order x i) ≤ x (order x j) := by
  have h := sortedFrom_noInversion (fun k k' => decide (x k < x k')) (fun k k' => decide (x k < x k'))
    (fun a b h => by simp only [decide_eq_true_eq, decide_eq_false_iff_not] at h ⊢; exact lt_asymm h) (fun _ _ h => h)
    (fun a b c h h' => by
      simp only [decide_eq_false_iff_not, not_lt] at h h' ⊢; exact h'.trans h) i j hij
  exact not_lt.mp (of_decide_eq_false h)

/-- Where the first four values in order differ, the first three positions are the three nearest. -/
theorem three (d : Fin 2048 → ℝ) (x : Fin 2048 → EReal) (hx : ∀ m, x m = (d m : EReal))
    (h01 : x (order x 0) < x (order x 1)) (h12 : x (order x 1) < x (order x 2)) (h23 : x (order x 2) < x (order x 3)) :
    Nearest.Three d (order x 0) (order x 1) (order x 2) where
  ab := by rw [hx, hx] at h01; exact EReal.coe_lt_coe_iff.mp h01
  bc := by rw [hx, hx] at h12; exact EReal.coe_lt_coe_iff.mp h12
  rest i ha hb hc := by
    obtain ⟨k, rfl⟩ := order_surjective x i
    have h0 : k ≠ 0 := fun h => ha (by rw [h])
    have h1 : k ≠ 1 := fun h => hb (by rw [h])
    have h2 : k ≠ 2 := fun h => hc (by rw [h])
    have h3 : x (order x 3) ≤ x (order x k) := by
      rcases eq_or_ne k 3 with rfl | h3
      · exact le_rfl
      · refine order_le x ?_
        rw [Fin.lt_def]
        have e0 : k.val ≠ 0 := fun h => h0 (Fin.ext h)
        have e1 : k.val ≠ 1 := fun h => h1 (Fin.ext h)
        have e2 : k.val ≠ 2 := fun h => h2 (Fin.ext h)
        have e3 : k.val ≠ 3 := fun h => h3 (Fin.ext h)
        change 3 < k.val
        omega
    have h := lt_of_lt_of_le h23 h3
    rw [hx, hx] at h
    exact EReal.coe_lt_coe_iff.mp h

/-- A comparison of pairs that looks at the first components' order alone. -/
def Compares (cmp : EReal × BitVec 32 → EReal × BitVec 32 → BitVec 1) : Prop :=
  ∀ p q, cmp p q = BitVec.ofBool (decide (p.1 < q.1))

/-- The words that a sort carries along are those of the positions in order. -/
theorem sort_apply (cmp : EReal × BitVec 32 → EReal × BitVec 32 → BitVec 1) (hcmp : Compares cmp)
    (x : (⟨3, ![4, 8192, 2048]⟩ : Shape).Idx → EReal) (y : (⟨3, ![4, 8192, 2048]⟩ : Shape).Idx → BitVec 32)
    (a : Fin 4) (l : Fin 8192) (j : Fin 2048) :
    (Host.sort2 ⟨3, ![4, 8192, 2048]⟩ 2 cmp x y).2 (ix3 a l j) = y (ix3 a l (order (fun m => x (ix3 a l m)) j)) := by
  have hal : ∀ k : Fin 2048, (ix3 a l j : (⟨3, ![4, 8192, 2048]⟩ : Shape).Idx).along (2 : Fin 3) k = ix3 a l k := by
    intro k
    funext d
    match d with
    | ⟨0, _⟩ => rfl
    | ⟨1, _⟩ => rfl
    | ⟨2, _⟩ => rfl
  have hcmp' : ∀ k k' : Fin 2048,
      (cmp (x ((ix3 a l j : (⟨3, ![4, 8192, 2048]⟩ : Shape).Idx).along (2 : Fin 3) k),
          y ((ix3 a l j : (⟨3, ![4, 8192, 2048]⟩ : Shape).Idx).along (2 : Fin 3) k))
        (x ((ix3 a l j : (⟨3, ![4, 8192, 2048]⟩ : Shape).Idx).along (2 : Fin 3) k'),
          y ((ix3 a l j : (⟨3, ![4, 8192, 2048]⟩ : Shape).Idx).along (2 : Fin 3) k')) == 1#1)
        = decide (x (ix3 a l k) < x (ix3 a l k')) := by
    intro k k'
    rw [hal, hal, hcmp]
    by_cases h : x (ix3 a l k) < x (ix3 a l k') <;> simp [h]
  unfold Host.sort2
  rw [dif_pos (show (2 : Nat) < 3 by decide)]
  refine (congrArg y (hal _)).trans (congrArg (fun r : Fin 2048 => y (ix3 a l r)) ?_)
  exact congrArg (fun R : Fin 2048 → Fin 2048 → Bool => sortedFrom R j) (funext fun k => funext fun k' => hcmp' k k')

/-! ### The words of positions -/

/-- A position's word is not negative, so no correction is made to it. -/
theorem word_fix (m : Fin 2048) (v : BitVec 32) :
    Scalar.select (IntOp.cmpi .slt (BitVec.ofNat 32 m.val) 0#32) v (BitVec.ofNat 32 m.val) = BitVec.ofNat 32 m.val := by
  have h : IntOp.cmpi .slt (BitVec.ofNat 32 m.val) 0#32 = 0#1 := by
    revert m; decide +kernel
  rw [h]; rfl

/-- A position's word is within the row. -/
theorem word_range (m : Fin 2048) :
    IntOp.andi (IntOp.cmpi .sge (BitVec.ofNat 32 m.val) 0#32) (IntOp.cmpi .sle (BitVec.ofNat 32 m.val) 2047#32) = 1#1 := by
  revert m; decide +kernel

/-- A position's word, read back. -/
theorem word_read (m : Fin 2048) : min (BitVec.ofNat 32 m.val).toInt.toNat 2047 = m.val := by
  revert m; decide +kernel

/-! ### Reading an array at words -/

/-- One element of each row, at a word for each row and each of `K` choices. -/
abbrev takeDims (K : Nat)
    (wf : GatherDims.WF ⟨3, ![4, 8192, 2048]⟩ ⟨4, ![4, 8192, K, 1]⟩ ⟨3, ![4, 8192, K]⟩ [] [2] [0, 1] [2] [0, 1] 3 ![1, 1, 1]) :
    GatherDims ⟨3, ![4, 8192, 2048]⟩ ⟨4, ![4, 8192, K, 1]⟩ ⟨3, ![4, 8192, K]⟩ where
  offsetDims := []
  collapsedSliceDims := [2]
  operandBatchingDims := [0, 1]
  startIndicesBatchingDims := [0, 1]
  startIndexMap := [2]
  indexVectorDim := 3
  sliceSizes := ![1, 1, 1]
  wf := wf

/-- The element read is the row's at the word. -/
theorem take_apply {α : Type} (K : Nat)
    (wf : GatherDims.WF ⟨3, ![4, 8192, 2048]⟩ ⟨4, ![4, 8192, K, 1]⟩ ⟨3, ![4, 8192, K]⟩ [] [2] [0, 1] [2] [0, 1] 3 ![1, 1, 1])
    (x : (⟨3, ![4, 8192, 2048]⟩ : Shape).Idx → α) (idx : IVec ⟨4, ![4, 8192, K, 1]⟩ 32) (a : Fin 4) (l : Fin 8192)
    (j : Fin K) (m : Fin 2048) (hm : idx (ix4 a l j 0) = BitVec.ofNat 32 m.val) :
    Host.gather (takeDims K wf) x idx (ix3 a l j) = x (ix3 a l m) := by
  unfold Host.gather
  congr 1
  funext d
  refine Fin.ext ?_
  show (takeDims K wf).start (ix3 a l j) idx d + (takeDims K wf).batchCoord (ix3 a l j) d
      + (takeDims K wf).offCoord (ix3 a l j) d = _
  have hd : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases hd with rfl | rfl | rfl
  · rw [GatherDims.start_batching _ _ _ _ (show (0 : Fin 3) ∈ [0, 1] by decide),
      GatherDims.offCoord_eq_zero _ _ _ (fun h => ((GatherDims.mem_sKept _ _).mp h).2 (show (0 : Fin 3) ∈ [0, 1] by decide))]
    simp only [Nat.zero_add, Nat.add_zero]
    unfold GatherDims.batchCoord
    rw [dif_pos (show (0 : Fin 3) ∈ [0, 1] by decide)]
    rfl
  · rw [GatherDims.start_batching _ _ _ _ (show (1 : Fin 3) ∈ [0, 1] by decide),
      GatherDims.offCoord_eq_zero _ _ _ (fun h => ((GatherDims.mem_sKept _ _).mp h).2 (show (1 : Fin 3) ∈ [0, 1] by decide))]
    simp only [Nat.zero_add, Nat.add_zero]
    unfold GatherDims.batchCoord
    rw [dif_pos (show (1 : Fin 3) ∈ [0, 1] by decide)]
    rfl
  · rw [GatherDims.batchCoord_eq_zero _ _ _ (show (2 : Fin 3) ∉ [0, 1] by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (takeDims K wf).startIndexMap from List.mem_singleton.mpr rfl)]
    have hsi : (takeDims K wf).siIdx (ix3 a l j) ⟨List.idxOf (2 : Fin 3) (takeDims K wf).startIndexMap,
        List.idxOf_lt_length_iff.2 (List.mem_singleton.mpr rfl)⟩ = ix4 a l j 0 := by
      funext b; refine Fin.ext ?_
      match b with
      | ⟨0, _⟩ => rfl
      | ⟨1, _⟩ => rfl
      | ⟨2, _⟩ => rfl
      | ⟨3, _⟩ => rfl
    rw [hsi, hm]
    exact word_read m

/-- One row of an array of rows, at a word for each row of the result. -/
abbrev rowDims
    (wf : GatherDims.WF ⟨3, ![4, 2048, 128]⟩ ⟨4, ![4, 8192, 3, 1]⟩ ⟨4, ![4, 8192, 3, 128]⟩ [3] [1] [0] [1] [0] 3 ![1, 1, 128]) :
    GatherDims ⟨3, ![4, 2048, 128]⟩ ⟨4, ![4, 8192, 3, 1]⟩ ⟨4, ![4, 8192, 3, 128]⟩ where
  offsetDims := [3]
  collapsedSliceDims := [1]
  operandBatchingDims := [0]
  startIndicesBatchingDims := [0]
  startIndexMap := [1]
  indexVectorDim := 3
  sliceSizes := ![1, 1, 128]
  wf := wf

/-- The element read is that of the row at the word. -/
theorem row_apply {α : Type}
    (wf : GatherDims.WF ⟨3, ![4, 2048, 128]⟩ ⟨4, ![4, 8192, 3, 1]⟩ ⟨4, ![4, 8192, 3, 128]⟩ [3] [1] [0] [1] [0] 3 ![1, 1, 128])
    (x : (⟨3, ![4, 2048, 128]⟩ : Shape).Idx → α) (idx : IVec ⟨4, ![4, 8192, 3, 1]⟩ 32) (a : Fin 4) (l : Fin 8192)
    (j : Fin 3) (o : Fin 128) (m : Fin 2048) (hm : idx (ix4 a l j 0) = BitVec.ofNat 32 m.val) :
    Host.gather (rowDims wf) x idx (ix4 a l j o) = x (ix3 a m o) := by
  unfold Host.gather
  congr 1
  funext d
  refine Fin.ext ?_
  show (rowDims wf).start (ix4 a l j o) idx d + (rowDims wf).batchCoord (ix4 a l j o) d
      + (rowDims wf).offCoord (ix4 a l j o) d = _
  have hd : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases hd with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (show (1 : Fin 3) ∉ [0] by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims wf).startIndexMap from List.mem_singleton.mpr rfl)]
    have hsi : (rowDims wf).siIdx (ix4 a l j o) ⟨List.idxOf (1 : Fin 3) (rowDims wf).startIndexMap,
        List.idxOf_lt_length_iff.2 (List.mem_singleton.mpr rfl)⟩ = ix4 a l j 0 := by
      funext b; refine Fin.ext ?_
      match b with
      | ⟨0, _⟩ => rfl
      | ⟨1, _⟩ => rfl
      | ⟨2, _⟩ => rfl
      | ⟨3, _⟩ => rfl
    rw [hsi, hm]
    exact word_read m
  · rw [GatherDims.batchCoord_eq_zero _ _ _ (show (2 : Fin 3) ∉ [0] by decide)]
    unfold GatherDims.start
    rw [dif_neg (show (2 : Fin 3) ∉ [1] by decide)]
    simp only [Nat.zero_add, Nat.add_zero]
    unfold GatherDims.offCoord
    rw [dif_pos ((GatherDims.mem_sKept _ _).mpr ⟨show (2 : Fin 3) ∉ [1] by decide, show (2 : Fin 3) ∉ [0] by decide⟩)]
    rfl

end Cert.Sorted

end
-- ==== Proof.RefFront.lean ====
/- What the reference computes up to the first dense layer, element by element. -/
module

public import proofs.«01_k».proof.Proof.Sorted
public import proofs.«01_k».proof.Proof.Spec
public import proofs.«01_k».proof.Proof.Gen.ReferenceIdeal.Read
public import Idealize.ShloMosaic.Lib.ReduceAll
public import Idealize.ShloMosaic.Lib.Pointwise

@[expose] public section

set_option maxRecDepth 16384

noncomputable section

namespace Cert.RefFront

open Cert.ReferenceIdeal Cert.ReferenceIdeal.Gen Cert.ReferenceIdeal.Read Idealize.ShloMosaic Idealize.ShloMosaic.Pointwise

variable (x0 : S4x3x8192.Idx → EReal) (x1 : S4x3x2048.Idx → EReal) (x2 : S4x64x8192.Idx → EReal) (x3 : S4x128x2048.Idx → EReal)
  (x4 : S128x192.Idx → EReal) (x5 : S128.Idx → EReal)

/-! ### The operations, element by element -/

/-- The squared distances. -/
theorem v16 (a : Fin 4) (l : Fin 8192) (m : Fin 2048) :
    (val_main_v16 (F := Ideal) x0 x1 (ix3 a l m) : EReal) =
      Ideal.ofBits .f32 0xC0000000#32 * (∑ k : Fin 3, x0 (ix3 a k l) * x1 (ix3 a k m)) + (∑ k : Fin 3, x0 (ix3 a k l) * x0 (ix3 a k l))
        + (∑ k : Fin 3, x1 (ix3 a k m) * x1 (ix3 a k m)) := by
  pointwise [val_main_v16, val_main_v11, val_main_v15, val_main_v14, val_main_v13, val_main_v12, val_main_v10, val_main_v9,
    val_main_v8, val_main_v7, val_main_v6, val_main_v5, val_main_v4, val_main_v3, val_main_v1, val_main_v0,
    val_main_cst, val_main_cst_0, val_main_cst_1]

/-- The comparison that sorts looks at the distances alone. -/
theorem compares : Sorted.Compares (comparator_f32_i32_d2 (F := Ideal)) := by
  intro p q
  have hz : ∀ x : EReal, Scalar.select (FloatOps.cmpf (F := Ideal) (φ := .f32) .oeq x (FloatOps.ofBits .f32 0x00000000#32))
      (FloatOps.ofBits (F := Ideal) .f32 0x00000000#32) x = x := by
    intro x
    change (if BitVec.ofBool (decide (x = Ideal.ofBits .f32 0x00000000#32)) = 1 then Ideal.ofBits .f32 0x00000000#32 else x) = x
    generalize Ideal.ofBits .f32 0x00000000#32 = z
    by_cases hx : x = z
    · subst hx; split_ifs <;> rfl
    · rw [if_neg (by simp [hx])]
  have hn : ∀ x y z : EReal, Scalar.select (FloatOps.cmpf (F := Ideal) (φ := .f32) .une x x) y z = z := by
    intro x y z
    change (if BitVec.ofBool (decide (x ≠ x)) = 1 then y else z) = z
    rw [if_neg (by simp)]
  unfold comparator_f32_i32_d2
  dsimp only
  rw [hz, hz, hn, hn]
  rfl

/-- The positions of a query's points, the nearest first. -/
abbrev order (a : Fin 4) (l : Fin 8192) : Fin 2048 → Fin 2048 :=
  Sorted.order fun m => (val_main_v16 (F := Ideal) x0 x1 (ix3 a l m) : EReal)

/-- The sorted positions' words. -/
theorem v17 (a : Fin 4) (l : Fin 8192) (j : Fin 2048) :
    val_main_v17 (F := Ideal) x0 x1 (ix3 a l j) = BitVec.ofNat 32 (order x0 x1 a l j).val := by
  have h := Sorted.sort_apply (comparator_f32_i32_d2 (F := Ideal)) compares (val_main_v16 (F := Ideal) x0 x1)
    (val_main_call0_v0 (F := Ideal)) a l j
  rw [val_main_call0_v0_apply] at h
  unfold val_main_v17
  exact h

/-- The position of the `j`-th nearest point. -/
abbrev near (a : Fin 4) (l : Fin 8192) (j : Fin 3) : Fin 2048 := order x0 x1 a l ⟨j.val, by omega⟩

/-- The word that `take_along_axis` reads at. -/
theorem call1_v5 (a : Fin 4) (l : Fin 8192) (j : Fin 3) :
    val_main_call1_v5 (F := Ideal) x0 x1 (ix4 a l j 0) = BitVec.ofNat 32 (near x0 x1 a l j).val := by
  pointwise [val_main_call1_v5, val_main_call1_v4, val_main_call1_v3, val_main_call1_v2, val_main_call1_v1, val_main_call1_v0,
    val_main_call1_c, val_main_call1_c_0, val_main_v18]
  rw [v17]
  exact Sorted.word_fix _ _

/-- Its check finds the word within the row. -/
theorem call1_v12 (a : Fin 4) (l : Fin 8192) (j : Fin 3) : val_main_call1_v12 (F := Ideal) x0 x1 (ix3 a l j) = 1#1 := by
  unfold val_main_call1_v12
  refine Host.reduce_andi_one _ _ _ _ _ rfl fun i => ?_
  obtain ⟨a, l, j, z, rfl⟩ : ∃ (a : Fin 4) (l : Fin 8192) (j : Fin 3) (z : Fin 1), i = ix4 a l j z := ⟨i 0, i 1, i 2, i 3, eq_ix4 i⟩
  obtain rfl : z = 0 := Subsingleton.elim _ _
  pointwise [val_main_call1_v11, val_main_call1_v10, val_main_call1_v9, val_main_call1_v8, val_main_call1_v7, val_main_call1_v6,
    val_main_call1_c_1, val_main_call1_c_2]
  rw [call1_v5]
  exact Sorted.word_range _

/-- The distance to the `j`-th nearest point. -/
theorem v19 (a : Fin 4) (l : Fin 8192) (j : Fin 3) :
    (val_main_v19 (F := Ideal) x0 x1 (ix3 a l j) : EReal) = val_main_v16 (F := Ideal) x0 x1 (ix3 a l (near x0 x1 a l j)) := by
  pointwise [val_main_v19, val_main_call1_v14, val_main_call1_cst]
  rw [call1_v12]
  exact Sorted.take_apply 3 _ (val_main_v16 (F := Ideal) x0 x1) (val_main_call1_v5 (F := Ideal) x0 x1) a l j _ (call1_v5 x0 x1 a l j)

/-- The weight of the `j`-th nearest point. -/
theorem v27 (a : Fin 4) (l : Fin 8192) (j : Fin 3) :
    (val_main_v27 (F := Ideal) x0 x1 (ix3 a l j) : EReal) =
      Ideal.div (Ideal.div 1 ((val_main_v19 (F := Ideal) x0 x1 (ix3 a l j) : EReal) + Ideal.ofBits .f32 0x322BCC77#32))
        (∑ k : Fin 3, Ideal.div 1 ((val_main_v19 (F := Ideal) x0 x1 (ix3 a l k) : EReal) + Ideal.ofBits .f32 0x322BCC77#32)) := by
  pointwise [val_main_v27, val_main_v26, val_main_v25, val_main_v24, val_main_v23, val_main_v22, val_main_v21, val_main_v20,
    val_main_cst_4, val_main_cst_3, val_main_cst_2]

/-- The word that the features are read at. -/
theorem v33 (a : Fin 4) (l : Fin 8192) (j : Fin 3) :
    val_main_v33 (F := Ideal) x0 x1 (ix4 a l j 0) = BitVec.ofNat 32 (near x0 x1 a l j).val := by
  pointwise [val_main_v33, val_main_v32, val_main_v31, val_main_v30, val_main_v29, val_main_v28, val_main_c, val_main_c_5,
    val_main_v18]
  rw [v17]
  exact Sorted.word_fix _ _

/-- The features of the `j`-th nearest point. -/
theorem v34 (a : Fin 4) (l : Fin 8192) (j : Fin 3) (f : Fin 128) :
    (val_main_v34 (F := Ideal) x0 x1 x3 (ix4 a l j f) : EReal) = x3 (ix3 a f (near x0 x1 a l j)) := by
  unfold val_main_v34
  refine (Sorted.row_apply _ (val_main_v2 (F := Ideal) x3) (val_main_v33 (F := Ideal) x0 x1) a l j f _ (v33 x0 x1 a l j)).trans ?_
  pointwise [val_main_v2]

/-- The interpolated features. -/
theorem v38 (a : Fin 4) (l : Fin 8192) (f : Fin 128) :
    (val_main_v38 (F := Ideal) x0 x1 x3 (ix3 a l f) : EReal) =
      ∑ j : Fin 3, (val_main_v34 (F := Ideal) x0 x1 x3 (ix4 a l j f) : EReal) * val_main_v27 (F := Ideal) x0 x1 (ix3 a l j) := by
  pointwise [val_main_v38, val_main_v37, val_main_v36, val_main_v35, val_main_cst_6]

/-- A query's channels. -/
theorem v40 (a : Fin 4) (l : Fin 8192) (k : Fin 192) :
    (val_main_v40 (F := Ideal) x0 x1 x2 x3 (ix3 a l k) : EReal) =
      if h : k.val < 64 then x2 (ix3 a ⟨k.val, h⟩ l) else val_main_v38 (F := Ideal) x0 x1 x3 (ix3 a l ⟨k.val - 64, by omega⟩) := by
  pointwise [val_main_v40, val_main_v39]

/-- The first dense layer. -/
theorem v46 (a : Fin 4) (o : Fin 128) (l : Fin 8192) :
    (val_main_v46 (F := Ideal) x0 x1 x2 x3 x4 x5 (ix3 a o l) : EReal) =
      (∑ k : Fin 192, (val_main_v40 (F := Ideal) x0 x1 x2 x3 (ix3 a l k) : EReal) * x4 (ix2 o k)) + x5 (ix1 o) := by
  pointwise [val_main_v46, val_main_v45, val_main_v44, val_main_v43, val_main_v42, val_main_v41]

/-! ### The same over numbers -/

section Numbers

open Cert.Point Cert.Spec Cert.Reals

variable {x0 x1 x2 x3 x4 x5} {I : Inputs}
  (h0 : ∀ a r l, x0 (ix3 a r l) = (I.x1 a r l : EReal)) (h1 : ∀ a r n, x1 (ix3 a r n) = (I.x2 a r n : EReal))
  (h2 : ∀ a k l, x2 (ix3 a k l) = (I.h1 a k l : EReal)) (h3 : ∀ a f n, x3 (ix3 a f n) = (I.h2 a f n : EReal))
  (h4 : ∀ o k, x4 (ix2 o k) = (I.w0 o k : EReal)) (h5 : ∀ o, x5 (ix1 o) = (I.b0 o : EReal))

include h0 h1

/-- The reference's squared distances. -/
theorem distance (a : Fin 4) (l : Fin 8192) (m : Fin 2048) :
    (val_main_v16 (F := Ideal) x0 x1 (ix3 a l m) : EReal) = (dists I a l m : EReal) := by
  rw [v16, ofBits_neg_two]
  simp only [h0, h1]
  exact reference_dist _ _

/-- The reference's weights. -/
theorem weight (a : Fin 4) (l : Fin 8192) (j : Fin 3) :
    (val_main_v27 (F := Ideal) x0 x1 (ix3 a l j) : EReal) =
      (share (dists I a l (near x0 x1 a l j)) (dists I a l (near x0 x1 a l 0)) (dists I a l (near x0 x1 a l 1))
        (dists I a l (near x0 x1 a l 2)) : EReal) := by
  have hr : ∀ k : Fin 3, Ideal.div 1 ((val_main_v19 (F := Ideal) x0 x1 (ix3 a l k) : EReal) + Ideal.ofBits .f32 0x322BCC77#32)
      = (recip (dists I a l (near x0 x1 a l k)) : EReal) := fun k => by
    rw [v19, distance h0 h1, ofBits_delta]; exact recip_coe (dist_nonneg _ _)
  rw [v27, hr, Finset.sum_congr rfl fun k _ => hr k, Fin.sum_univ_three]
  exact share_coe _ (dist_nonneg _ _) (dist_nonneg _ _) (dist_nonneg _ _)

include h3

/-- The reference's interpolated features. -/
theorem features (a : Fin 4) (l : Fin 8192) (f : Fin 128) :
    (val_main_v38 (F := Ideal) x0 x1 x3 (ix3 a l f) : EReal) = (interpolated I (near x0 x1) a l f : EReal) := by
  rw [v38, Fin.sum_univ_three]
  simp only [v34, h3, weight h0 h1]
  simp only [← EReal.coe_mul, ← EReal.coe_add]
  rfl

include h2

/-- The reference's channels. -/
theorem channels (a : Fin 4) (l : Fin 8192) (k : Fin 192) :
    (val_main_v40 (F := Ideal) x0 x1 x2 x3 (ix3 a l k) : EReal) = (channel I (near x0 x1) a l k : EReal) := by
  rw [v40]
  unfold channel
  by_cases h : k.val < 64
  · rw [dif_pos h, dif_pos h, h2]
  · rw [dif_neg h, dif_neg h, features h0 h1 h3]

include h4 h5

/-- The reference's first dense layer. -/
theorem first (a : Fin 4) (o : Fin 128) (l : Fin 8192) :
    (val_main_v46 (F := Ideal) x0 x1 x2 x3 x4 x5 (ix3 a o l) : EReal) = (layer0 I (near x0 x1) o (a, l) : EReal) := by
  rw [v46]
  unfold layer0
  rw [EReal.coe_add, coe_sum, h5]
  refine congrArg (· + _) (Finset.sum_congr rfl fun k _ => ?_)
  rw [channels h0 h1 h2 h3, h4, EReal.coe_mul, mul_comm]

end Numbers

end Cert.RefFront

end
-- ==== Proof.RefBack.lean ====
/- What the reference computes after the first dense layer, element by element. -/
module

public import proofs.«01_k».proof.Proof.RefFront

@[expose] public section

set_option maxRecDepth 16384

noncomputable section

namespace Cert.RefBack

open Cert.ReferenceIdeal Cert.ReferenceIdeal.Gen Cert.ReferenceIdeal.Read Idealize.ShloMosaic Idealize.ShloMosaic.Pointwise
open Cert.Norm Cert.Reals Cert.Spec

variable (x0 : S4x3x8192.Idx → EReal) (x1 : S4x3x2048.Idx → EReal) (x2 : S4x64x8192.Idx → EReal) (x3 : S4x128x2048.Idx → EReal)
  (x4 : S128x192.Idx → EReal) (x5 x6 x7 : S128.Idx → EReal) (x8 : S128x128.Idx → EReal) (x9 x10 x11 : S128.Idx → EReal)

/-- A sum over the batches and the columns of a channel, onto `0`. -/
theorem sum_channel (v : S4x128x8192.Idx → EReal) (z : S_.Idx → EReal) (hz : z (Shape.Idx.first h_S_) = 0) (o : Fin 128) :
    (Host.reduceAdd (F := Ideal) (φ := .f32) v z reducesTo_S4x128x8192_S128_d0_2 h_S_ (ix1 o) : EReal)
      = ∑ p : Fin 4 × Fin 8192, v (ix3 p.1 o p.2) := by
  change z (Shape.Idx.first h_S_) + ∑ i ∈ Finset.univ.filter (fun i => reducesTo_S4x128x8192_S128_d0_2.drop i = ix1 o), v i = _
  rw [hz, zero_add]
  have hd : ∀ i : S4x128x8192.Idx, reducesTo_S4x128x8192_S128_d0_2.drop i = ix1 o ↔ i 1 = o := by
    intro i
    constructor
    · intro h
      have := congrFun h 0
      exact Fin.ext (congrArg Fin.val this)
    · intro h
      funext b
      match b with
      | ⟨0, _⟩ => exact Fin.ext (congrArg Fin.val h)
  refine Finset.sum_nbij' (fun i => (i 0, i 2)) (fun p => ix3 p.1 o p.2) ?_ ?_ ?_ ?_ ?_
  · intro i _; exact Finset.mem_univ _
  · intro p _; exact Finset.mem_filter.mpr ⟨Finset.mem_univ _, (hd _).mpr rfl⟩
  · intro i hi
    have := (hd i).mp (Finset.mem_filter.mp hi).2
    subst this
    exact (eq_ix3 i).symm
  · intro p _; rfl
  · intro i hi
    have := (hd i).mp (Finset.mem_filter.mp hi).2
    subst this
    exact congrArg v (eq_ix3 i)

/-- The padding: the integer zero, converted, taken from the count. -/
theorem count : Ideal.ofBits .f32 0x47000000#32 - (FloatOps.sitofp .f32 (0#32) : Ideal .f32) = (32768 : ℝ) := by
  have h : (FloatOps.sitofp .f32 (0#32) : Ideal .f32) = ((0 : ℝ) : EReal) := by
    change ((((0#32).toInt : ℤ) : ℝ) : EReal) = _
    simp
  rw [h, ofBits_count, ← EReal.coe_sub, sub_zero]

section Numbers

variable {x0 x1 x2 x3 x4 x5 x6 x7 x8 x9 x10 x11}
variable {v : S4x128x8192.Idx → EReal} {x : Fin 128 → Fin 4 × Fin 8192 → ℝ} (h : ∀ a o l, v (ix3 a o l) = (x o (a, l) : EReal))

include h in
/-- The mean of a channel of numbers. -/
theorem mean_of (z : S_.Idx → EReal) (hz : z (Shape.Idx.first h_S_) = 0) (o : Fin 128) :
    Ideal.div (Host.reduceAdd (F := Ideal) (φ := .f32) v z reducesTo_S4x128x8192_S128_d0_2 h_S_ (ix1 o))
      (Ideal.ofBits .f32 0x47000000#32) = (mean (x o) : EReal) := by
  rw [sum_channel v z hz, ofBits_count, Finset.sum_congr rfl fun p _ => h p.1 o p.2]
  exact reference_mean (x o)

/-- The variance of a channel of numbers. -/
theorem var_of (w : S4x128x8192.Idx → EReal)
    (hw : ∀ a o l, w (ix3 a o l) = ((x o (a, l) : EReal) - (mean (x o) : EReal)) * ((x o (a, l) : EReal) - (mean (x o) : EReal)))
    (z : S_.Idx → EReal) (hz : z (Shape.Idx.first h_S_) = 0) (o : Fin 128) (e : EReal) :
    (if 0 < Ideal.ofBits .f32 0x47000000#32 - (FloatOps.sitofp .f32 (0#32) : Ideal .f32) then
      Ideal.div (Host.reduceAdd (F := Ideal) (φ := .f32) w z reducesTo_S4x128x8192_S128_d0_2 h_S_ (ix1 o))
        (Ideal.ofBits .f32 0x47000000#32 - (FloatOps.sitofp .f32 (0#32) : Ideal .f32))
    else e) = (var (x o) : EReal) := by
  rw [count, if_pos (by rw [← EReal.coe_zero, EReal.coe_lt_coe_iff]; norm_num), sum_channel w z hz,
    Finset.sum_congr rfl fun p _ => hw p.1 o p.2]
  exact reference_var (x o)

end Numbers

/-! ### The first normalisation -/

section First

variable {x0 x1 x2 x3 x4 x5 x6 x7} {x : Fin 128 → Fin 4 × Fin 8192 → ℝ} {g be : Fin 128 → ℝ}
  (h : ∀ a o l, (val_main_v46 (F := Ideal) x0 x1 x2 x3 x4 x5 (ix3 a o l) : EReal) = (x o (a, l) : EReal))
include h

/-- The squared differences from the mean. -/
theorem squares0 (a : Fin 4) (o : Fin 128) (l : Fin 8192) :
    (val_main_call2_v6 (F := Ideal) x0 x1 x2 x3 x4 x5 (ix3 a o l) : EReal)
      = ((x o (a, l) : EReal) - (mean (x o) : EReal)) * ((x o (a, l) : EReal) - (mean (x o) : EReal)) := by
  pointwise [val_main_call2_v6, val_main_call2_v5, val_main_call2_v4, val_main_call2_v3, val_main_call2_v2, val_main_call2_v1,
    val_main_call2_cst_0]
  unfold val_main_call2_v0
  rw [mean_of h _ Ideal.ofBits_zero_f32, h]

/-- The variance. -/
theorem variance0 (o : Fin 128) :
    (val_main_v51 (F := Ideal) x0 x1 x2 x3 x4 x5 (ix3 0 o 0) : EReal) = (var (x o) : EReal) := by
  pointwise [val_main_v51, val_main_call2_v13, val_main_call2_v12, val_main_call2_v11, val_main_call2_v10, val_main_call2_v8,
    val_main_call2_v7, val_main_call2_call0_v1, val_main_call2_call0_v0, val_main_call2_cst_1, val_main_call2_cst_3,
    val_main_call2_cst_4, val_main_c_9]
  exact var_of _ (squares0 h) _ Ideal.ofBits_zero_f32 o _

/-- The layer, normalised. -/
theorem normalised0 (h6 : ∀ o, x6 (ix1 o) = (g o : EReal)) (h7 : ∀ o, x7 (ix1 o) = (be o : EReal)) (a : Fin 4) (o : Fin 128)
    (l : Fin 8192) :
    (val_main_v65 (F := Ideal) x0 x1 x2 x3 x4 x5 x6 x7 (ix3 a o l) : EReal) = (normedReal (x o) (g o) (be o) (a, l) : EReal) := by
  pointwise [val_main_v65, val_main_v64, val_main_v63, val_main_v62, val_main_v61, val_main_v60, val_main_v59, val_main_v58,
    val_main_v57, val_main_v56, val_main_v55, val_main_v54, val_main_v53, val_main_v52, val_main_v50, val_main_v49, val_main_v48,
    val_main_call3_v0, val_main_call3_cst, val_main_cst_8, val_main_cst_10]
  unfold val_main_v47
  rw [mean_of h _ Ideal.ofBits_zero_f32, h, variance0 h, h6, h7, ofBits_eps]
  exact (reference_eq (x o) (g o) (be o) (a, l)).trans (normed_coe _ _ _ _)

end First

/-- The second dense layer. -/
theorem v70 (a : Fin 4) (o : Fin 128) (l : Fin 8192) :
    (val_main_v70 (F := Ideal) x0 x1 x2 x3 x4 x5 x6 x7 x8 x9 (ix3 a o l) : EReal) =
      (∑ k : Fin 128, (val_main_v65 (F := Ideal) x0 x1 x2 x3 x4 x5 x6 x7 (ix3 a k l) : EReal) * x8 (ix2 o k)) + x9 (ix1 o) := by
  pointwise [val_main_v70, val_main_v69, val_main_v68, val_main_v67, val_main_v66]

/-! ### The second normalisation -/

section Second

variable {x0 x1 x2 x3 x4 x5 x6 x7 x8 x9 x10 x11} {x : Fin 128 → Fin 4 × Fin 8192 → ℝ} {g : Fin 128 → ℝ}
  (h : ∀ a o l, (val_main_v70 (F := Ideal) x0 x1 x2 x3 x4 x5 x6 x7 x8 x9 (ix3 a o l) : EReal) = (x o (a, l) : EReal))
include h

/-- The squared differences from the mean. -/
theorem squares1 (a : Fin 4) (o : Fin 128) (l : Fin 8192) :
    (val_main_call4_v6 (F := Ideal) x0 x1 x2 x3 x4 x5 x6 x7 x8 x9 (ix3 a o l) : EReal)
      = ((x o (a, l) : EReal) - (mean (x o) : EReal)) * ((x o (a, l) : EReal) - (mean (x o) : EReal)) := by
  pointwise [val_main_call4_v6, val_main_call4_v5, val_main_call4_v4, val_main_call4_v3, val_main_call4_v2, val_main_call4_v1,
    val_main_call4_cst_0]
  unfold val_main_call4_v0
  rw [mean_of h _ Ideal.ofBits_zero_f32, h]

/-- The variance. -/
theorem variance1 (o : Fin 128) :
    (val_main_v75 (F := Ideal) x0 x1 x2 x3 x4 x5 x6 x7 x8 x9 (ix3 0 o 0) : EReal) = (var (x o) : EReal) := by
  pointwise [val_main_v75, val_main_call4_v13, val_main_call4_v12, val_main_call4_v11, val_main_call4_v10, val_main_call4_v8,
    val_main_call4_v7, val_main_call4_call0_v1, val_main_call4_call0_v0, val_main_call4_cst_1, val_main_call4_cst_3,
    val_main_call4_cst_4, val_main_c_13]
  exact var_of _ (squares1 h) _ Ideal.ofBits_zero_f32 o _

/-- The result: the layer, normalised. -/
theorem normalised1 (h10 : ∀ o, x10 (ix1 o) = (g o : EReal)) (a : Fin 4) (o : Fin 128) (l : Fin 8192) :
    (val_main_v89 (F := Ideal) x0 x1 x2 x3 x4 x5 x6 x7 x8 x9 x10 x11 (ix3 a o l) : EReal)
      = normed (x o) (g o) (x11 (ix1 o)) (a, l) := by
  pointwise [val_main_v89, val_main_v88, val_main_v87, val_main_v86, val_main_v85, val_main_v84, val_main_v83, val_main_v82,
    val_main_v81, val_main_v80, val_main_v79, val_main_v78, val_main_v77, val_main_v76, val_main_v74, val_main_v73, val_main_v72,
    val_main_call5_v0, val_main_call5_cst, val_main_cst_12, val_main_cst_14]
  unfold val_main_v71
  rw [mean_of h _ Ideal.ofBits_zero_f32, h, variance1 h, h10, ofBits_eps]
  exact reference_eq (x o) (g o) _ (a, l)

end Second

/-! ### The result over numbers -/

variable {x0 x1 x2 x3 x4 x5 x6 x7 x8 x9 x10 x11}

/-- The reference's result, where its arguments hold the numbers: the three points nearest to a query are the first three
    in the order of the distances. -/
theorem result {I : Inputs}
    (hR : Reads I (fun a r l => x0 (ix3 a r l)) (fun a r n => x1 (ix3 a r n)) (fun a k l => x2 (ix3 a k l))
      (fun a f n => x3 (ix3 a f n)) (fun o k => x4 (ix2 o k)) (fun o => x5 (ix1 o)) (fun o => x6 (ix1 o)) (fun o => x7 (ix1 o))
      (fun o k => x8 (ix2 o k)) (fun o => x9 (ix1 o)) (fun o => x10 (ix1 o)) (fun o => x11 (ix1 o)))
    (a : Fin 4) (o : Fin 128) (l : Fin 8192) :
    (val_main_v89 (F := Ideal) x0 x1 x2 x3 x4 x5 x6 x7 x8 x9 x10 x11 (ix3 a o l) : EReal)
      = out I (RefFront.near x0 x1) o (a, l) := by
  have h46 := RefFront.first hR.x1 hR.x2 hR.h1 hR.h2 hR.w0 hR.b0
  have h70 : ∀ a o l, (val_main_v70 (F := Ideal) x0 x1 x2 x3 x4 x5 x6 x7 x8 x9 (ix3 a o l) : EReal)
      = (layer1 I (RefFront.near x0 x1) o (a, l) : EReal) := fun a o l => by
    rw [v70, show x9 (ix1 o) = (I.b1 o : EReal) from hR.b1 o]
    unfold layer1
    rw [EReal.coe_add, coe_sum]
    refine congrArg (· + _) (Finset.sum_congr rfl fun k _ => ?_)
    rw [normalised0 h46 hR.g0 hR.be0, show x8 (ix2 o k) = (I.w1 o k : EReal) from hR.w1 o k, EReal.coe_mul, mul_comm]
    rfl
  rw [normalised1 h70 hR.g1, show x11 (ix1 o) = I.be1 o from hR.be1 o]
  rfl

end Cert.RefBack

end
-- ==== Proof.Precondition.lean ====
/- The precondition, read: the arrays but the last hold numbers, and each query's four nearest points are at four
   distances. -/
module

public import proofs.«01_k».proof.Proof.RefFront
public import proofs.«01_k».proof.Pre_finite_nearest_apart

@[expose] public section

set_option maxRecDepth 16384

noncomputable section

namespace Cert.PreRead

open Cert.Pre_finite_nearest_apart Cert.Spec Idealize.ShloMosaic Idealize.ShloMosaic.Pointwise

/-- The precondition's side conditions. -/
instance facts : Cert.Pre_finite_nearest_apart.Facts where
  transposes_S4x3x8192_S4x8192x3_0_2_1 := by decide
  transposes_S4x3x2048_S4x2048x3_0_2_1 := by decide
  transposes_S4x2048x3_S4x3x2048_0_2_1 := by decide
  bcast_S_S4x8192x2048 := by decide
  reducesTo_S4x8192x3_S4x8192_d2 := by decide
  h_S_ := by decide
  bcast_S4x8192_S4x8192x1_0_1 := by decide
  bcast_S4x8192x1_S4x8192x2048_0_1_2 := by decide
  reducesTo_S4x2048x3_S4x2048_d2 := by decide
  bcast_S4x2048_S4x1x2048_0_2 := by decide
  bcast_S4x1x2048_S4x8192x2048_0_1_2 := by decide
  slices_S4x8192x2048_S4x8192x4_0_0_0 := by decide
  bcast_S_S4x8192x4 := by decide
  shapeCasts_S4x8192x4_S4x8192x4x1 := by decide
  bcast_S_S4x8192x4x1 := by decide
  bcast_S1_S1x1x1x1_3 := by decide
  bcast_S1x1x1x1_S4x8192x4x1_0_1_2_3 := by decide
  reducesTo_S4x8192x4x1_S4x8192x4_d3 := by decide
  slices_S4x8192x4_S4x8192x3_0_0_0 := by decide
  slices_S4x8192x4_S4x8192x3_0_0_1 := by decide
  reducesTo_S4x8192x3_S_d0_1_2 := by decide
  bcast_S_S4x3x8192 := by decide
  reducesTo_S4x3x8192_S_d0_1_2 := by decide
  bcast_S_S4x3x2048 := by decide
  reducesTo_S4x3x2048_S_d0_1_2 := by decide
  bcast_S_S4x64x8192 := by decide
  reducesTo_S4x64x8192_S_d0_1_2 := by decide
  bcast_S_S4x128x2048 := by decide
  reducesTo_S4x128x2048_S_d0_1_2 := by decide
  bcast_S_S128x192 := by decide
  reducesTo_S128x192_S_d0_1 := by decide
  bcast_S_S128 := by decide
  reducesTo_S128_S_d0 := by decide
  bcast_S_S128x128 := by decide
  reducesTo_S128x128_S_d0_1 := by decide
  dot_S4x8192x3_S4x3x2048_S4x8192x2048_2_1_1_2_0_0_wf := by decide
  gather_S4x8192x2048_S4x8192x4x1_S4x8192x4_n_2_01_01_2_3_111_wf := by decide

/-- Both of two conditions joined. -/
theorem both {x y : IVec S_ 1} (h : andi x y ix0 = 1#1) : x ix0 = 1#1 ∧ y ix0 = 1#1 := IntOp.andi_eq_one.1 h

/-- An array of no axes has one position. -/
instance : Subsingleton S_.Idx := ⟨fun _ _ => funext fun a => a.elim0⟩

/-- An array whose magnitudes are all below infinity holds numbers. -/
theorem finite {s : Shape} {axes : List (Fin s.rank)} (x : s.Idx → EReal) (bc : S_.BroadcastsInDim s (![] : Fin 0 → Fin s.rank))
    (init : IVec S_ 1) (red : s.ReducesTo axes S_) (hu : 0 < S_.numel)
    (h : Host.reduce IntOp.andi (cmpf (F := Ideal) (φ := .f32) .olt (Host.absf (F := Ideal) (φ := .f32) x)
      (broadcastInDim s ![] bc (constant (F := Ideal) S_ .f32 0x7F800000#32))) init red hu ix0 = 1#1) (i : s.Idx) :
    x i = ((x i).toReal : EReal) := by
  have h : BitVec.ofBool (decide (max (x i) (-x i) < Ideal.ofBits .f32 0x7F800000#32)) = 1#1 :=
    Host.reduce_andi_all _ _ _ _ _ h i
  rw [Point.ofBits_inf] at h
  have hlt : max (x i) (-x i) < ⊤ := by
    by_contra hn
    rw [decide_eq_false hn] at h
    exact absurd h (by decide)
  refine (EReal.coe_toReal (ne_of_lt (lt_of_le_of_lt (le_max_left _ _) hlt)) fun hb => ?_).symm
  rw [hb] at hlt
  exact absurd hlt (by simp)

/-- The comparison that sorts looks at the distances alone. -/
theorem compares : Sorted.Compares (comparator_f32_i32_d2 (F := Ideal)) := RefFront.compares

/-- The sorted positions' words. -/
theorem argsort (d : S4x8192x2048.Idx → EReal) (a : Fin 4) (l : Fin 8192) (j : Fin 2048) :
    fn_argsort (F := Ideal) d (ix3 a l j) = BitVec.ofNat 32 (Sorted.order (fun m => d (ix3 a l m)) j).val := by
  have h := Sorted.sort_apply (comparator_f32_i32_d2 (F := Ideal)) compares d (iotaInDim S4x8192x2048 32 2) a l j
  unfold fn_argsort
  exact h

/-- The word that is read at. -/
abbrev word (w : IVec S4x8192x4 32) : IVec S4x8192x4x1 32 :=
  shapeCast S4x8192x4x1 (select (cmpi .slt w (broadcastInDim S4x8192x4 ![] Facts.bcast_S_S4x8192x4 (constantI S_ 32 0#32)))
    (addi w (broadcastInDim S4x8192x4 ![] Facts.bcast_S_S4x8192x4 (constantI S_ 32 2048#32))) w)
    Facts.shapeCasts_S4x8192x4_S4x8192x4x1

/-- A position's word is read at as it is: it is not negative, so nothing is added to it. -/
theorem word_apply (w : IVec S4x8192x4 32) (n : Fin 4 → Fin 8192 → Fin 4 → Fin 2048)
    (hw : ∀ a l j, w (ix3 a l j) = BitVec.ofNat 32 (n a l j).val) (a : Fin 4) (l : Fin 8192) (j : Fin 4) :
    word w (ix4 a l j 0) = BitVec.ofNat 32 (n a l j).val := by
  unfold word
  pointwise
  rw [hw]
  exact Sorted.word_fix _ _

/-- What is read at the positions' words. -/
theorem take (d : S4x8192x2048.Idx → EReal) (w : IVec S4x8192x4 32) (n : Fin 4 → Fin 8192 → Fin 4 → Fin 2048)
    (hw : ∀ a l j, w (ix3 a l j) = BitVec.ofNat 32 (n a l j).val) (a : Fin 4) (l : Fin 8192) (j : Fin 4) :
    (fn_take_along_axis (F := Ideal) d w (ix3 a l j) : EReal) = d (ix3 a l (n a l j)) := by
  have hin : ∀ i, andi (cmpi .sge (word w) (broadcastInDim S4x8192x4x1 ![] Facts.bcast_S_S4x8192x4x1 (constantI S_ 32 0#32)))
      (cmpi .sle (word w) (broadcastInDim S4x8192x4x1 ![0, 1, 2, 3] Facts.bcast_S1x1x1x1_S4x8192x4x1_0_1_2_3
        (broadcastInDim S1x1x1x1 ![3] Facts.bcast_S1_S1x1x1x1_3 (constantI S1 32 2047#32)))) i = 1#1 := by
    intro i
    obtain ⟨a, l, j, z, rfl⟩ : ∃ (a : Fin 4) (l : Fin 8192) (j : Fin 4) (z : Fin 1), i = ix4 a l j z := ⟨i 0, i 1, i 2, i 3, eq_ix4 i⟩
    obtain rfl : z = 0 := Subsingleton.elim _ _
    change IntOp.andi (IntOp.cmpi .sge (word w (ix4 a l j 0)) 0#32) (IntOp.cmpi .sle (word w (ix4 a l j 0)) 2047#32) = 1#1
    rw [word_apply w n hw]
    exact Sorted.word_range _
  have hand := Host.reduce_andi_one _ (constantI S_ 1 1#1) Facts.reducesTo_S4x8192x4x1_S4x8192x4_d3 Facts.h_S_ (ix3 a l j) rfl hin
  have htake := Sorted.take_apply 4 Facts.gather_S4x8192x2048_S4x8192x4x1_S4x8192x4_n_2_01_01_2_3_111_wf d (word w) a l j (n a l j)
    (word_apply w n hw a l j)
  unfold fn_take_along_axis
  dsimp only
  refine (?_ : Scalar.select _ _ _ = _)
  rw [hand]
  exact htake

/-- Where the first three sorted distances compare below the next, each of a query's three smallest distances is below the
    one after it. -/
theorem apart (d : S4x8192x2048.Idx → EReal)
    (h : Host.reduce IntOp.andi (cmpf (F := Ideal) (φ := .f32) .olt
      (extractStridedSlice S4x8192x3 ![0, 0, 0] (fn_take_along_axis (F := Ideal) d (extractStridedSlice S4x8192x4 ![0, 0, 0]
        (fn_argsort (F := Ideal) d) Facts.slices_S4x8192x2048_S4x8192x4_0_0_0)) Facts.slices_S4x8192x4_S4x8192x3_0_0_0)
      (extractStridedSlice S4x8192x3 ![0, 0, 1] (fn_take_along_axis (F := Ideal) d (extractStridedSlice S4x8192x4 ![0, 0, 0]
        (fn_argsort (F := Ideal) d) Facts.slices_S4x8192x2048_S4x8192x4_0_0_0)) Facts.slices_S4x8192x4_S4x8192x3_0_0_1))
      (constantI S_ 1 1#1) Facts.reducesTo_S4x8192x3_S_d0_1_2 Facts.h_S_ ix0 = 1#1) (a : Fin 4) (l : Fin 8192) (j : Fin 3) :
    d (ix3 a l (Sorted.order (fun m => d (ix3 a l m)) ⟨j.val, by omega⟩))
      < d (ix3 a l (Sorted.order (fun m => d (ix3 a l m)) ⟨j.val + 1, by omega⟩)) := by
  have h := Host.reduce_andi_all _ _ _ _ _ h (ix3 a l j)
  have hw : ∀ (a : Fin 4) (l : Fin 8192) (j : Fin 4), extractStridedSlice S4x8192x4 ![0, 0, 0] (fn_argsort (F := Ideal) d)
      Facts.slices_S4x8192x2048_S4x8192x4_0_0_0 (ix3 a l j)
        = BitVec.ofNat 32 (Sorted.order (fun m => d (ix3 a l m)) ⟨j.val, by omega⟩).val := by
    intro a l j
    pointwise
    exact argsort d a l _
  revert h
  pointwise
  intro h
  by_contra hn
  have ht := take d _ (fun a l j => Sorted.order (fun m => d (ix3 a l m)) ⟨j.val, by omega⟩) hw a l
  have e1 : (⟨1 + j.val, by omega⟩ : Fin 4) = ⟨j.val + 1, by omega⟩ := Fin.ext (Nat.add_comm _ _)
  rw [e1] at h
  rw [ht, ht, decide_eq_false hn] at h
  exact absurd h (by decide)

/-- The numbers the arrays hold; the last array as it is. -/
abbrev inputs (x0 : S4x3x8192.Idx → EReal) (x1 : S4x3x2048.Idx → EReal) (x2 : S4x64x8192.Idx → EReal) (x3 : S4x128x2048.Idx → EReal) (x4 : S128x192.Idx → EReal) (x5 : S128.Idx → EReal) (x6 : S128.Idx → EReal) (x7 : S128.Idx → EReal) (x8 : S128x128.Idx → EReal) (x9 : S128.Idx → EReal) (x10 : S128.Idx → EReal) (x11 : S128.Idx → EReal) : Inputs where
  x1 a r l := (x0 (ix3 a r l)).toReal
  x2 a r n := (x1 (ix3 a r n)).toReal
  h1 a k l := (x2 (ix3 a k l)).toReal
  h2 a f n := (x3 (ix3 a f n)).toReal
  w0 o k := (x4 (ix2 o k)).toReal
  b0 o := (x5 (ix1 o)).toReal
  g0 o := (x6 (ix1 o)).toReal
  be0 o := (x7 (ix1 o)).toReal
  w1 o k := (x8 (ix2 o k)).toReal
  b1 o := (x9 (ix1 o)).toReal
  g1 o := (x10 (ix1 o)).toReal
  be1 o := x11 (ix1 o)

variable {x0 : S4x3x8192.Idx → EReal} {x1 : S4x3x2048.Idx → EReal} {x2 : S4x64x8192.Idx → EReal} {x3 : S4x128x2048.Idx → EReal} {x4 : S128x192.Idx → EReal} {x5 : S128.Idx → EReal} {x6 : S128.Idx → EReal} {x7 : S128.Idx → EReal} {x8 : S128x128.Idx → EReal} {x9 : S128.Idx → EReal} {x10 : S128.Idx → EReal} {x11 : S128.Idx → EReal}

/-- Under the precondition the arrays hold their numbers, and the order of the distances names each query's three
    nearest points. -/
theorem read (h : fn (F := Ideal) x0 x1 x2 x3 x4 x5 x6 x7 x8 x9 x10 x11 = fun _ => 1#1) :
    Reads (inputs x0 x1 x2 x3 x4 x5 x6 x7 x8 x9 x10 x11) (fun a r l => x0 (ix3 a r l)) (fun a r n => x1 (ix3 a r n)) (fun a k l => x2 (ix3 a k l))
      (fun a f n => x3 (ix3 a f n)) (fun o k => x4 (ix2 o k)) (fun o => x5 (ix1 o)) (fun o => x6 (ix1 o)) (fun o => x7 (ix1 o))
      (fun o k => x8 (ix2 o k)) (fun o => x9 (ix1 o)) (fun o => x10 (ix1 o)) (fun o => x11 (ix1 o))
      ∧ Nearest3 (inputs x0 x1 x2 x3 x4 x5 x6 x7 x8 x9 x10 x11) (RefFront.near x0 x1) := by
  have h := congrFun h ix0
  unfold fn fn_part1 fn_part2 fn_part3 fn_part4 at h
  dsimp only at h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h, h1⟩ := both h
  obtain ⟨h, h0⟩ := both h
  have f0 := finite x0 _ _ _ _ h0
  have f1 := finite x1 _ _ _ _ h1
  have apart' := apart (Cert.ReferenceIdeal.Read.val_main_v16 (F := Ideal) x0 x1) h
  refine ⟨⟨fun a r l => f0 _, fun a r n => f1 _, fun a k l => finite x2 _ _ _ _ h2 _, fun a f n => finite x3 _ _ _ _ h3 _,
    fun o k => finite x4 _ _ _ _ h4 _, fun o => finite x5 _ _ _ _ h5 _, fun o => finite x6 _ _ _ _ h6 _,
    fun o => finite x7 _ _ _ _ h7 _, fun o k => finite x8 _ _ _ _ h8 _, fun o => finite x9 _ _ _ _ h9 _,
    fun o => finite x10 _ _ _ _ h10 _, fun o => rfl⟩, fun a l => ?_⟩
  exact Sorted.three (dists (inputs x0 x1 x2 x3 x4 x5 x6 x7 x8 x9 x10 x11) a l)
    (fun m => (Cert.ReferenceIdeal.Read.val_main_v16 (F := Ideal) x0 x1 (ix3 a l m) : EReal))
    (fun m => RefFront.distance (fun a r l => f0 _) (fun a r n => f1 _) a l m) (apart' a l 0) (apart' a l 1) (apart' a l 2)

end Cert.PreRead

end
-- ==== Proof.Agree.lean ====
/- The kernel's result is the reference's, under the precondition; and the reference's run, its counters included. -/
module

public import proofs.«01_k».proof.Proof.KernelRun
public import proofs.«01_k».proof.Proof.KernelValue
public import proofs.«01_k».proof.Proof.RefBack
public import proofs.«01_k».proof.Proof.Precondition
public import proofs.«01_k».proof.Proof.Gen.ReferenceIdeal.Run

@[expose] public section

set_option maxRecDepth 16384

noncomputable section

namespace Cert.Agree

open Idealize.ShloMosaic Idealize.ShloMosaic.TcCoe Idealize.SL.Sem
open Cert.KernelIdeal.Gen

/-! The reference's run. -/

section Reference

open Cert.ReferenceIdeal

variable (m : (ℓ : Loc nD τ sig) → Buf (Elt Ideal) ℓ) (ρ : Dev nD → PrngReg)

/-- The reference has no semaphore. -/
theorem no_counter : ∀ _ : SemLoc sig, False := by decide

/-- The reference's result at the launch's arguments. -/
abbrev value (c : Dev nD) : S4x128x8192.Idx → EReal :=
  Read.val_main_v89 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11))

/-- The reference's run: its result, and the arguments unchanged. -/
theorem reference_run : θ_run defs (onTc (τ := τ) (main (F := Ideal))) ⟨m, fun _ => 0, ρ⟩ (fun r => ∀ c : Dev nD,
    r.2.mem ((c.tc : Thread nD τ).loc main_v89) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (Read.val_main_v89_eq (StableHlo.launchContents m c)), (h c).2⟩)
    (Value.run m ρ)

/-- The reference's frame: the arguments unchanged, and every counter at zero. -/
theorem reference_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => (h c).2, funext fun g => (no_counter g.2).elim⟩) (reference_run m ρ)

end Reference

/-- The kernel's result at a launch, of which the precondition is true, is the reference's at the same arguments. -/
theorem agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (h : Cert.Pre_finite_nearest_apart.fn (F := Ideal) (Hosts.xyz1 m c) (Hosts.xyz2 m c) (Hosts.points1 m c)
      (Hosts.points2 m c) (Hosts.w0 m c) (Hosts.b0 m c) (Hosts.g0 m c) (Hosts.be0 m c) (Hosts.w1 m c) (Hosts.b1 m c)
      (Hosts.g1 m c) (Hosts.be1 m c) = fun _ => 1#1) :
    (W14 m ρ c (Proc.devRef .tc Cert.KernelIdeal.main_v22) : Cert.KernelIdeal.S4x128x8192.Idx → EReal)
      = Cert.ReferenceIdeal.Read.val_main_v89 (F := Ideal) (Hosts.xyz1 m c) (Hosts.xyz2 m c) (Hosts.points1 m c)
          (Hosts.points2 m c) (Hosts.w0 m c) (Hosts.b0 m c) (Hosts.g0 m c) (Hosts.be0 m c) (Hosts.w1 m c) (Hosts.b1 m c)
          (Hosts.g1 m c) (Hosts.be1 m c) := by
  obtain ⟨hR, hn⟩ := PreRead.read h
  funext i
  rw [eq_ix3 i]
  exact (KernelValue.result ρ hR hn (i 0) (i 1) (i 2)).trans (RefBack.result hR (i 0) (i 1) (i 2)).symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem Cert.KernelIdeal Cert.KernelIdeal.Gen

/-- The ideal kernel and the ideal reference end with the same result, where the arrays are finite and the nearest points
    apart. -/
theorem algebraic : Cert.algebraic_KernelIdeal_ReferenceIdeal_pre_finite_nearest_apart := by
  intro m g m' g' hP hA
  refine ⟨fun c => W14 m g c (Proc.devRef .tc main_v22), (θ_run _ _ _).mono (fun r h c => ?_) (Cert.KernelRun.run m g),
    (θ_run _ _ _).mono (fun r h c => ⟨(h c).1.trans ?_, (h c).2⟩) (Cert.Agree.reference_run m' g')⟩
  · exact ⟨h c _ (mem_uc main_v22 (by decide)),
      (h c _ (mem_uc main_arg0 (by decide))).trans (W14_main_arg0 m g c),
      (h c _ (mem_uc main_arg1 (by decide))).trans (W14_main_arg1 m g c),
      (h c _ (mem_uc main_arg2 (by decide))).trans (W14_main_arg2 m g c),
      (h c _ (mem_uc main_arg3 (by decide))).trans (W14_main_arg3 m g c),
      (h c _ (mem_uc main_arg4 (by decide))).trans (W14_main_arg4 m g c),
      (h c _ (mem_uc main_arg5 (by decide))).trans (W14_main_arg5 m g c),
      (h c _ (mem_uc main_arg6 (by decide))).trans (W14_main_arg6 m g c),
      (h c _ (mem_uc main_arg7 (by decide))).trans (W14_main_arg7 m g c),
      (h c _ (mem_uc main_arg8 (by decide))).trans (W14_main_arg8 m g c),
      (h c _ (mem_uc main_arg9 (by decide))).trans (W14_main_arg9 m g c),
      (h c _ (mem_uc main_arg10 (by decide))).trans (W14_main_arg10 m g c),
      (h c _ (mem_uc main_arg11 (by decide))).trans (W14_main_arg11 m g c)⟩
  · obtain ⟨e0, e1, e2, e3, e4, e5, e6, e7, e8, e9, e10, e11⟩ := hA c
    unfold Cert.Agree.value
    rw [e0, e1, e2, e3, e4, e5, e6, e7, e8, e9, e10, e11]
    exact (Cert.Agree.agree m g c (hP c)).symm

/-- The frames of the three programs, and the kernel's result against the reference's. -/
theorem claim : Cert.Claim := ⟨Cert.Kernel.Gen.facts, Cert.KernelIdeal.Gen.facts, Cert.ReferenceIdeal.Gen.facts,
  Cert.PreRead.facts, fun m ρ _ => Cert.Kernel.Gen.frame m ρ, fun m ρ _ => Cert.KernelIdeal.Gen.frame m ρ,
  fun m ρ _ => Cert.KernelIdeal.Gen.frame m ρ, fun m ρ _ => Cert.Agree.reference_frame m ρ,
  fun m ρ _ => Cert.Agree.reference_frame m ρ, trivial, algebraic⟩

end Cert.Proof

end
